-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1000000 : Shape := ⟨2, ![64, 1000000]⟩
abbrev S64x1 : Shape := ⟨2, ![64, 1]⟩
abbrev S64 : Shape := ⟨1, ![64]⟩
abbrev S64x65536 : Shape := ⟨2, ![64, 65536]⟩
abbrev S64x128 : Shape := ⟨2, ![64, 128]⟩

abbrev nBuf : Space → Nat
  | .hbm => 3
  | .vmem => 5
  | .smem => 0
  | _ => 0

abbrev bufTy : (tb : Table) → Fin (tcTables nBuf tb) → BufTy
  | .hbm, ⟨0, _⟩ => ⟨S64x1000000, .f32⟩
  | .hbm, ⟨1, _⟩ => ⟨S64x1, .i32⟩
  | .hbm, ⟨2, _⟩ => ⟨S64, .i32⟩
  | .local _ .vmem, ⟨0, _⟩ => ⟨S64x65536, .f32⟩
  | .local _ .vmem, ⟨1, _⟩ => ⟨S64x65536, .f32⟩
  | .local _ .vmem, ⟨2, _⟩ => ⟨S64x1, .i32⟩
  | .local _ .vmem, ⟨3, _⟩ => ⟨S64x128, .f32⟩
  | .local _ .vmem, ⟨4, _⟩ => ⟨S64x128, .i32⟩
  | _, _ => ⟨S64x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v15 : BitVec 1 := Scalar.cmpi .slt arg0 c15_i32
  let v16 : BitVec 32 := Scalar.extui v15
  let c0_i32_4 : BitVec 32 := 0#32
  let v17 : BitVec 1 := Scalar.cmpi .ne v16 c0_i32_4
  v17

@[reducible] def k0_t1_loop : Scf.Loop 32 :=
  let c1_i32 : BitVec 32 := 1#32
  let c511_i32 : BitVec 32 := 511#32
  let v190 : BitVec 32 := Scalar.addi c1_i32 c511_i32
  let c1_i32_44 : BitVec 32 := 1#32
  ⟨c1_i32, v190, c1_i32_44⟩
def k0_off1 (k0_t1 : Fin k0_t1_loop.trips) : Fin 2 → Nat :=
  let c0_110 : Index := 0#32
  let c1_i32 : BitVec 32 := 1#32
  let c1_i32_44 : BitVec 32 := 1#32
  let arg5 : BitVec 32 := Scf.iv c1_i32 c1_i32_44 k0_t1
  let c128_i32 : BitVec 32 := 128#32
  let v212 : BitVec 32 := Scalar.muli arg5 c128_i32
  let c128_i32_107 : BitVec 32 := 128#32
  let v382 : BitVec 32 := Scalar.subi v212 c128_i32_107
  let v389 : Index := Scalar.indexCast v382
  ![0, v389.toNat]
def k0_cond3 (i : grid0.Coords) : BitVec 1 :=
  let arg0 : BitVec 32 := BitVec.ofNat 32 (i 0).val
  let c15_i32_5 : BitVec 32 := 15#32
  let v18 : BitVec 1 := Scalar.cmpi .eq arg0 c15_i32_5
  let v19 : BitVec 32 := Scalar.extui v18
  let c0_i32_6 : BitVec 32 := 0#32
  let v20 : BitVec 1 := Scalar.cmpi .ne v19 c0_i32_6
  v20

@[reducible] def k0_t2_loop (i : grid0.Coords) : Scf.Loop 32 :=
  let c1_i32_51 : BitVec 32 := 1#32
  let c65536_i32_0 : BitVec 32 := 65536#32
  let c1000000_i32 : BitVec 32 := 1000000#32
  let arg0 : BitVec 32 := BitVec.ofNat 32 (i 0).val
  let c65536_i32 : BitVec 32 := 65536#32
  let v0 : BitVec 32 := Scalar.muli arg0 c65536_i32
  let v1 : BitVec 32 := Scalar.subi c1000000_i32 v0
  let v2 : BitVec 32 := Scalar.minsi c65536_i32_0 v1
  let c128_i32 : BitVec 32 := 128#32
  let v21 : BitVec 32 := Scalar.addi v2 c128_i32
  let c1_i32 : BitVec 32 := 1#32
  let v22 : BitVec 32 := Scalar.subi v21 c1_i32
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c128_i32_7 : BitVec 32 := 128#32
  let c0_i32_10 : BitVec 32 := 0#32
  let v29 : BitVec 1 := Scalar.cmpi .sgt c128_i32_7 c0_i32_10
  let v30 : BitVec 32 := Scalar.extui v29
  let c0_i32_11 : BitVec 32 := 0#32
  let v31 : BitVec 1 := Scalar.cmpi .slt c128_i32_7 c0_i32_11
  let v32 : BitVec 32 := Scalar.extui v31
  let v33 : BitVec 32 := Scalar.subi v30 v32
  let v34 : BitVec 1 := Scalar.cmpi .ne v28 v33
  let v35 : BitVec 32 := Scalar.remsi v22 c128_i32_7
  let c0_i32_12 : BitVec 32 := 0#32
  let v36 : BitVec 1 := Scalar.cmpi .ne v35 c0_i32_12
  let v37 : BitVec 1 := Scalar.andi v34 v36
  let v23 : BitVec 32 := Scalar.divsi v22 c128_i32_7
  let c1_i32_13 : BitVec 32 := 1#32
  let v38 : BitVec 32 := Scalar.subi v23 c1_i32_13
  let v39 : BitVec 32 := Scalar.select v37 v38 v23
  let v209 : BitVec 32 := Scalar.subi v39 c1_i32_51
  let c1_i32_52 : BitVec 32 := 1#32
  let v211 : BitVec 32 := Scalar.divsi v209 c1_i32_52
  let v212 : BitVec 32 := Scalar.muli v211 c1_i32_52
  let v213 : BitVec 32 := Scalar.addi c1_i32_51 v212
  let c1_i32_53 : BitVec 32 := 1#32
  ⟨c1_i32_51, v213, c1_i32_53⟩
def k0_off2 (i : grid0.Coords) (k0_t2 : Fin (k0_t2_loop i).trips) : Fin 2 → Nat :=
  let c0_131 : Index := 0#32
  let c1_i32_51 : BitVec 32 := 1#32
  let c1_i32_53 : BitVec 32 := 1#32
  let arg5 : BitVec 32 := Scf.iv c1_i32_51 c1_i32_53 k0_t2
  let c128_i32_74 : BitVec 32 := 128#32
  let v256 : BitVec 32 := Scalar.muli arg5 c128_i32_74
  let c128_i32_128 : BitVec 32 := 128#32
  let v426 : BitVec 32 := Scalar.subi v256 c128_i32_128
  let v433 : Index := Scalar.indexCast v426
  ![0, v433.toNat]
@[reducible] def k0_t3_loop (i : grid0.Coords) : Scf.Loop 32 :=
  let c1_i32_51 : BitVec 32 := 1#32
  let c65536_i32_0 : BitVec 32 := 65536#32
  let c1000000_i32 : BitVec 32 := 1000000#32
  let arg0 : BitVec 32 := BitVec.ofNat 32 (i 0).val
  let c65536_i32 : BitVec 32 := 65536#32
  let v0 : BitVec 32 := Scalar.muli arg0 c65536_i32
  let v1 : BitVec 32 := Scalar.subi c1000000_i32 v0
  let v2 : BitVec 32 := Scalar.minsi c65536_i32_0 v1
  let c128_i32 : BitVec 32 := 128#32
  let v21 : BitVec 32 := Scalar.addi v2 c128_i32
  let c1_i32 : BitVec 32 := 1#32
  let v22 : BitVec 32 := Scalar.subi v21 c1_i32
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c128_i32_7 : BitVec 32 := 128#32
  let c0_i32_10 : BitVec 32 := 0#32
  let v29 : BitVec 1 := Scalar.cmpi .sgt c128_i32_7 c0_i32_10
  let v30 : BitVec 32 := Scalar.extui v29
  let c0_i32_11 : BitVec 32 := 0#32
  let v31 : BitVec 1 := Scalar.cmpi .slt c128_i32_7 c0_i32_11
  let v32 : BitVec 32 := Scalar.extui v31
  let v33 : BitVec 32 := Scalar.subi v30 v32
  let v34 : BitVec 1 := Scalar.cmpi .ne v28 v33
  let v35 : BitVec 32 := Scalar.remsi v22 c128_i32_7
  let c0_i32_12 : BitVec 32 := 0#32
  let v36 : BitVec 1 := Scalar.cmpi .ne v35 c0_i32_12
  let v37 : BitVec 1 := Scalar.andi v34 v36
  let v23 : BitVec 32 := Scalar.divsi v22 c128_i32_7
  let c1_i32_13 : BitVec 32 := 1#32
  let v38 : BitVec 32 := Scalar.subi v23 c1_i32_13
  let v39 : BitVec 32 := Scalar.select v37 v38 v23
  let v209 : BitVec 32 := Scalar.subi v39 c1_i32_51
  let c1_i32_52 : BitVec 32 := 1#32
  let v211 : BitVec 32 := Scalar.divsi v209 c1_i32_52
  let v212 : BitVec 32 := Scalar.muli v211 c1_i32_52
  let v213 : BitVec 32 := Scalar.addi c1_i32_51 v212
  let v210 : BitVec 32 := Scalar.addi c1_i32_51 v209
  let c1_i32_54 : BitVec 32 := 1#32
  ⟨v213, v210, c1_i32_54⟩
def k0_off3 (i : grid0.Coords) (k0_t3 : Fin (k0_t3_loop i).trips) : Fin 2 → Nat :=
  let c0_131 : Index := 0#32
  let c1_i32_51 : BitVec 32 := 1#32
  let c65536_i32_0 : BitVec 32 := 65536#32
  let c1000000_i32 : BitVec 32 := 1000000#32
  let arg0 : BitVec 32 := BitVec.ofNat 32 (i 0).val
  let c65536_i32 : BitVec 32 := 65536#32
  let v0 : BitVec 32 := Scalar.muli arg0 c65536_i32
  let v1 : BitVec 32 := Scalar.subi c1000000_i32 v0
  let v2 : BitVec 32 := Scalar.minsi c65536_i32_0 v1
  let c128_i32 : BitVec 32 := 128#32
  let v21 : BitVec 32 := Scalar.addi v2 c128_i32
  let c1_i32 : BitVec 32 := 1#32
  let v22 : BitVec 32 := Scalar.subi v21 c1_i32
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c128_i32_7 : BitVec 32 := 128#32
  let c0_i32_10 : BitVec 32 := 0#32
  let v29 : BitVec 1 := Scalar.cmpi .sgt c128_i32_7 c0_i32_10
  let v30 : BitVec 32 := Scalar.extui v29
  let c0_i32_11 : BitVec 32 := 0#32
  let v31 : BitVec 1 := Scalar.cmpi .slt c128_i32_7 c0_i32_11
  let v32 : BitVec 32 := Scalar.extui v31
  let v33 : BitVec 32 := Scalar.subi v30 v32
  let v34 : BitVec 1 := Scalar.cmpi .ne v28 v33
  let v35 : BitVec 32 := Scalar.remsi v22 c128_i32_7
  let c0_i32_12 : BitVec 32 := 0#32
  let v36 : BitVec 1 := Scalar.cmpi .ne v35 c0_i32_12
  let v37 : BitVec 1 := Scalar.andi v34 v36
  let v23 : BitVec 32 := Scalar.divsi v22 c128_i32_7
  let c1_i32_13 : BitVec 32 := 1#32
  let v38 : BitVec 32 := Scalar.subi v23 c1_i32_13
  let v39 : BitVec 32 := Scalar.select v37 v38 v23
  let v209 : BitVec 32 := Scalar.subi v39 c1_i32_51
  let c1_i32_52 : BitVec 32 := 1#32
  let v211 : BitVec 32 := Scalar.divsi v209 c1_i32_52
  let v212 : BitVec 32 := Scalar.muli v211 c1_i32_52
  let v213 : BitVec 32 := Scalar.addi c1_i32_51 v212
  let c1_i32_54 : BitVec 32 := 1#32
  let arg5 : BitVec 32 := Scf.iv v213 c1_i32_54 k0_t3
  let c128_i32_74 : BitVec 32 := 128#32
  let v256 : BitVec 32 := Scalar.muli arg5 c128_i32_74
  let c128_i32_128 : BitVec 32 := 128#32
  let v426 : BitVec 32 := Scalar.subi v256 c128_i32_128
  let v433 : Index := Scalar.indexCast v426
  ![0, v433.toNat]
def k0_off4 (i : grid0.Coords) : Fin 2 → Nat :=
  let c0_59 : Index := 0#32
  let c65536_i32_0 : BitVec 32 := 65536#32
  let c1000000_i32 : BitVec 32 := 1000000#32
  let arg0 : BitVec 32 := BitVec.ofNat 32 (i 0).val
  let c65536_i32 : BitVec 32 := 65536#32
  let v0 : BitVec 32 := Scalar.muli arg0 c65536_i32
  let v1 : BitVec 32 := Scalar.subi c1000000_i32 v0
  let v2 : BitVec 32 := Scalar.minsi c65536_i32_0 v1
  let c128_i32 : BitVec 32 := 128#32
  let v21 : BitVec 32 := Scalar.addi v2 c128_i32
  let c1_i32 : BitVec 32 := 1#32
  let v22 : BitVec 32 := Scalar.subi v21 c1_i32
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c128_i32_7 : BitVec 32 := 128#32
  let c0_i32_10 : BitVec 32 := 0#32
  let v29 : BitVec 1 := Scalar.cmpi .sgt c128_i32_7 c0_i32_10
  let v30 : BitVec 32 := Scalar.extui v29
  let c0_i32_11 : BitVec 32 := 0#32
  let v31 : BitVec 1 := Scalar.cmpi .slt c128_i32_7 c0_i32_11
  let v32 : BitVec 32 := Scalar.extui v31
  let v33 : BitVec 32 := Scalar.subi v30 v32
  let v34 : BitVec 1 := Scalar.cmpi .ne v28 v33
  let v35 : BitVec 32 := Scalar.remsi v22 c128_i32_7
  let c0_i32_12 : BitVec 32 := 0#32
  let v36 : BitVec 1 := Scalar.cmpi .ne v35 c0_i32_12
  let v37 : BitVec 1 := Scalar.andi v34 v36
  let v23 : BitVec 32 := Scalar.divsi v22 c128_i32_7
  let c1_i32_13 : BitVec 32 := 1#32
  let v38 : BitVec 32 := Scalar.subi v23 c1_i32_13
  let v39 : BitVec 32 := Scalar.select v37 v38 v23
  let c1_i32_55 : BitVec 32 := 1#32
  let v216 : BitVec 32 := Scalar.subi v39 c1_i32_55
  let c128_i32_56 : BitVec 32 := 128#32
  let v217 : BitVec 32 := Scalar.muli v216 c128_i32_56
  let v224 : Index := Scalar.indexCast v217
  ![0, v224.toNat]
def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_3 : BitVec 32 := 0#32
  let v14 : BitVec 1 := Scalar.cmpi .ne v13 c0_i32_3
  v14

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S64x1000000 : Shape := ⟨2, ![64, 1000000]⟩
abbrev S_ : Shape := ⟨0, ![]⟩
abbrev S1 : Shape := ⟨1, ![1]⟩
abbrev S2 : Shape := ⟨1, ![2]⟩
abbrev S1x1 : Shape := ⟨2, ![1, 1]⟩
abbrev S64 : Shape := ⟨1, ![64]⟩

abbrev nBuf : Space → Nat
  | .hbm => 288
  | .vmem => 0
  | .smem => 0
  | _ => 0

abbrev hbmTy0_0 (i : Nat) : BufTy := match i % 128 with
  | 0 => ⟨S64x1000000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S64x1000000, .i64⟩
  | 22 => ⟨S64x1000000, .i64⟩
  | 23 => ⟨S_, .i64⟩
  | 24 => ⟨S64x1000000, .i64⟩
  | 25 => ⟨S64x1000000, .i64⟩
  | 26 => ⟨S_, .i64⟩
  | 27 => ⟨S64x1000000, .i64⟩
  | 28 => ⟨S64x1000000, .i64⟩
  | 29 => ⟨S64x1000000, .i64⟩
  | 30 => ⟨S_, .i64⟩
  | 31 => ⟨S64x1000000, .i64⟩
  | 32 => ⟨S64x1000000, .i64⟩
  | 33 => ⟨S64x1000000, .i32⟩
  | 34 => ⟨S64x1000000, .i32⟩
  | 35 => ⟨S_, .i32⟩
  | 36 => ⟨S_, .i32⟩
  | 37 => ⟨S_, .i32⟩
  | 38 => ⟨S64x1000000, .i32⟩
  | 39 => ⟨S64x1000000, .i32⟩
  | 40 => ⟨S64x1000000, .i32⟩
  | 41 => ⟨S64x1000000, .i32⟩
  | 42 => ⟨S64x1000000, .i32⟩
  | 43 => ⟨S_, .i32⟩
  | 44 => ⟨S64x1000000, .i32⟩
  | 45 => ⟨S64x1000000, .i32⟩
  | 46 => ⟨S_, .i32⟩
  | 47 => ⟨S64x1000000, .i32⟩
  | 48 => ⟨S64x1000000, .i32⟩
  | 49 => ⟨S64x1000000, .i32⟩
  | 50 => ⟨S64x1000000, .i32⟩
  | 51 => ⟨S64x1000000, .i32⟩
  | 52 => ⟨S_, .i32⟩
  | 53 => ⟨S64x1000000, .i32⟩
  | 54 => ⟨S64x1000000, .i32⟩
  | 55 => ⟨S_, .i32⟩
  | 56 => ⟨S64x1000000, .i32⟩
  | 57 => ⟨S64x1000000, .i32⟩
  | 58 => ⟨S64x1000000, .i32⟩
  | 59 => ⟨S64x1000000, .i32⟩
  | 60 => ⟨S64x1000000, .i32⟩
  | 61 => ⟨S_, .i32⟩
  | 62 => ⟨S64x1000000, .i32⟩
  | 63 => ⟨S64x1000000, .i32⟩
  | 64 => ⟨S_, .i32⟩
  | 65 => ⟨S64x1000000, .i32⟩
  | 66 => ⟨S64x1000000, .i32⟩
  | 67 => ⟨S64x1000000, .i32⟩
  | 68 => ⟨S64x1000000, .i32⟩
  | 69 => ⟨S64x1000000, .i32⟩
  | 70 => ⟨S_, .i32⟩
  | 71 => ⟨S64x1000000, .i32⟩
  | 72 => ⟨S64x1000000, .i32⟩
  | 73 => ⟨S_, .i32⟩
  | 74 => ⟨S64x1000000, .i32⟩
  | 75 => ⟨S64x1000000, .i32⟩
  | 76 => ⟨S64x1000000, .i32⟩
  | 77 => ⟨S64x1000000, .i32⟩
  | 78 => ⟨S64x1000000, .i32⟩
  | 79 => ⟨S64x1000000, .i32⟩
  | 80 => ⟨S64x1000000, .i32⟩
  | 81 => ⟨S64x1000000, .i32⟩
  | 82 => ⟨S_, .i32⟩
  | 83 => ⟨S64x1000000, .i32⟩
  | 84 => ⟨S64x1000000, .i32⟩
  | 85 => ⟨S64x1000000, .i32⟩
  | 86 => ⟨S_, .i32⟩
  | 87 => ⟨S64x1000000, .i32⟩
  | 88 => ⟨S64x1000000, .i32⟩
  | 89 => ⟨S_, .i32⟩
  | 90 => ⟨S64x1000000, .i32⟩
  | 91 => ⟨S64x1000000, .i32⟩
  | 92 => ⟨S64x1000000, .i32⟩
  | 93 => ⟨S64x1000000, .i32⟩
  | 94 => ⟨S64x1000000, .i32⟩
  | 95 => ⟨S_, .i32⟩
  | 96 => ⟨S64x1000000, .i32⟩
  | 97 => ⟨S64x1000000, .i32⟩
  | 98 => ⟨S_, .i32⟩
  | 99 => ⟨S64x1000000, .i32⟩
  | 100 => ⟨S64x1000000, .i32⟩
  | 101 => ⟨S64x1000000, .i32⟩
  | 102 => ⟨S64x1000000, .i32⟩
  | 103 => ⟨S64x1000000, .i32⟩
  | 104 => ⟨S_, .i32⟩
  | 105 => ⟨S64x1000000, .i32⟩
  | 106 => ⟨S64x1000000, .i32⟩
  | 107 => ⟨S_, .i32⟩
  | 108 => ⟨S64x1000000, .i32⟩
  | 109 => ⟨S64x1000000, .i32⟩
  | 110 => ⟨S64x1000000, .i32⟩
  | 111 => ⟨S64x1000000, .i32⟩
  | 112 => ⟨S64x1000000, .i32⟩
  | 113 => ⟨S_, .i32⟩
  | 114 => ⟨S64x1000000, .i32⟩
  | 115 => ⟨S64x1000000, .i32⟩
  | 116 => ⟨S_, .i32⟩
  | 117 => ⟨S64x1000000, .i32⟩
  | 118 => ⟨S64x1000000, .i32⟩
  | 119 => ⟨S64x1000000, .i32⟩
  | 120 => ⟨S64x1000000, .i32⟩
  | 121 => ⟨S64x1000000, .i32⟩
  | 122 => ⟨S64x1000000, .i32⟩
  | 123 => ⟨S64x1000000, .i32⟩
  | 124 => ⟨S64x1000000, .i32⟩
  | 125 => ⟨S_, .i32⟩
  | 126 => ⟨S64x1000000, .i32⟩
  | 127 => ⟨S64x1000000, .i32⟩
  | _ => ⟨S64x1000000, .f32⟩

abbrev hbmTy0_1 (i : Nat) : BufTy := match i % 128 with
  | 0 => ⟨S64x1000000, .i32⟩
  | 1 => ⟨S_, .i32⟩
  | 2 => ⟨S64x1000000, .i32⟩
  | 3 => ⟨S64x1000000, .i32⟩
  | 4 => ⟨S_, .i32⟩
  | 5 => ⟨S64x1000000, .i32⟩
  | 6 => ⟨S64x1000000, .i32⟩
  | 7 => ⟨S64x1000000, .i32⟩
  | 8 => ⟨S64x1000000, .i32⟩
  | 9 => ⟨S64x1000000, .i32⟩
  | 10 => ⟨S_, .i32⟩
  | 11 => ⟨S64x1000000, .i32⟩
  | 12 => ⟨S64x1000000, .i32⟩
  | 13 => ⟨S_, .i32⟩
  | 14 => ⟨S64x1000000, .i32⟩
  | 15 => ⟨S64x1000000, .i32⟩
  | 16 => ⟨S64x1000000, .i32⟩
  | 17 => ⟨S64x1000000, .i32⟩
  | 18 => ⟨S64x1000000, .i32⟩
  | 19 => ⟨S_, .i32⟩
  | 20 => ⟨S64x1000000, .i32⟩
  | 21 => ⟨S64x1000000, .i32⟩
  | 22 => ⟨S_, .i32⟩
  | 23 => ⟨S64x1000000, .i32⟩
  | 24 => ⟨S64x1000000, .i32⟩
  | 25 => ⟨S64x1000000, .i32⟩
  | 26 => ⟨S64x1000000, .i32⟩
  | 27 => ⟨S64x1000000, .i32⟩
  | 28 => ⟨S_, .i32⟩
  | 29 => ⟨S64x1000000, .i32⟩
  | 30 => ⟨S64x1000000, .i32⟩
  | 31 => ⟨S_, .i32⟩
  | 32 => ⟨S64x1000000, .i32⟩
  | 33 => ⟨S64x1000000, .i32⟩
  | 34 => ⟨S64x1000000, .i32⟩
  | 35 => ⟨S64x1000000, .i32⟩
  | 36 => ⟨S64x1000000, .i32⟩
  | 37 => ⟨S64x1000000, .i32⟩
  | 38 => ⟨S64x1000000, .i32⟩
  | 39 => ⟨S64x1000000, .i32⟩
  | 40 => ⟨S_, .i32⟩
  | 41 => ⟨S64x1000000, .i32⟩
  | 42 => ⟨S64x1000000, .i32⟩
  | 43 => ⟨S64x1000000, .i32⟩
  | 44 => ⟨S_, .i32⟩
  | 45 => ⟨S64x1000000, .i32⟩
  | 46 => ⟨S64x1000000, .i32⟩
  | 47 => ⟨S_, .i32⟩
  | 48 => ⟨S64x1000000, .i32⟩
  | 49 => ⟨S64x1000000, .i32⟩
  | 50 => ⟨S64x1000000, .i32⟩
  | 51 => ⟨S64x1000000, .i32⟩
  | 52 => ⟨S64x1000000, .i32⟩
  | 53 => ⟨S_, .i32⟩
  | 54 => ⟨S64x1000000, .i32⟩
  | 55 => ⟨S64x1000000, .i32⟩
  | 56 => ⟨S_, .i32⟩
  | 57 => ⟨S64x1000000, .i32⟩
  | 58 => ⟨S64x1000000, .i32⟩
  | 59 => ⟨S64x1000000, .i32⟩
  | 60 => ⟨S64x1000000, .i32⟩
  | 61 => ⟨S64x1000000, .i32⟩
  | 62 => ⟨S_, .i32⟩
  | 63 => ⟨S64x1000000, .i32⟩
  | 64 => ⟨S64x1000000, .i32⟩
  | 65 => ⟨S_, .i32⟩
  | 66 => ⟨S64x1000000, .i32⟩
  | 67 => ⟨S64x1000000, .i32⟩
  | 68 => ⟨S64x1000000, .i32⟩
  | 69 => ⟨S64x1000000, .i32⟩
  | 70 => ⟨S64x1000000, .i32⟩
  | 71 => ⟨S_, .i32⟩
  | 72 => ⟨S64x1000000, .i32⟩
  | 73 => ⟨S64x1000000, .i32⟩
  | 74 => ⟨S_, .i32⟩
  | 75 => ⟨S64x1000000, .i32⟩
  | 76 => ⟨S64x1000000, .i32⟩
  | 77 => ⟨S64x1000000, .i32⟩
  | 78 => ⟨S64x1000000, .i32⟩
  | 79 => ⟨S64x1000000, .i32⟩
  | 80 => ⟨S64x1000000, .i32⟩
  | 81 => ⟨S64x1000000, .i32⟩
  | 82 => ⟨S64x1000000, .i32⟩
  | 83 => ⟨S_, .i32⟩
  | 84 => ⟨S64x1000000, .i32⟩
  | 85 => ⟨S64x1000000, .i32⟩
  | 86 => ⟨S64x1000000, .i32⟩
  | 87 => ⟨S_, .i32⟩
  | 88 => ⟨S64x1000000, .i32⟩
  | 89 => ⟨S64x1000000, .i32⟩
  | 90 => ⟨S_, .i32⟩
  | 91 => ⟨S64x1000000, .i32⟩
  | 92 => ⟨S64x1000000, .i32⟩
  | 93 => ⟨S64x1000000, .i32⟩
  | 94 => ⟨S64x1000000, .i32⟩
  | 95 => ⟨S64x1000000, .i32⟩
  | 96 => ⟨S_, .i32⟩
  | 97 => ⟨S64x1000000, .i32⟩
  | 98 => ⟨S64x1000000, .i32⟩
  | 99 => ⟨S_, .i32⟩
  | 100 => ⟨S64x1000000, .i32⟩
  | 101 => ⟨S64x1000000, .i32⟩
  | 102 => ⟨S64x1000000, .i32⟩
  | 103 => ⟨S64x1000000, .i32⟩
  | 104 => ⟨S64x1000000, .i32⟩
  | 105 => ⟨S_, .i32⟩
  | 106 => ⟨S64x1000000, .i32⟩
  | 107 => ⟨S64x1000000, .i32⟩
  | 108 => ⟨S_, .i32⟩
  | 109 => ⟨S64x1000000, .i32⟩
  | 110 => ⟨S64x1000000, .i32⟩
  | 111 => ⟨S64x1000000, .i32⟩
  | 112 => ⟨S64x1000000, .i32⟩
  | 113 => ⟨S64x1000000, .i32⟩
  | 114 => ⟨S_, .i32⟩
  | 115 => ⟨S64x1000000, .i32⟩
  | 116 => ⟨S64x1000000, .i32⟩
  | 117 => ⟨S_, .i32⟩
  | 118 => ⟨S64x1000000, .i32⟩
  | 119 => ⟨S64x1000000, .i32⟩
  | 120 => ⟨S64x1000000, .i32⟩
  | 121 => ⟨S64x1000000, .i32⟩
  | 122 => ⟨S64x1000000, .i32⟩
  | 123 => ⟨S64x1000000, .i32⟩
  | 124 => ⟨S64x1000000, .i32⟩
  | 125 => ⟨S64x1000000, .i32⟩
  | 126 => ⟨S_, .i32⟩
  | 127 => ⟨S64x1000000, .i32⟩
  | _ => ⟨S64x1000000, .f32⟩

abbrev hbmTy0_2 (i : Nat) : BufTy := match i % 128 with
  | 0 => ⟨S64x1000000, .i32⟩
  | 1 => ⟨S64x1000000, .i32⟩
  | 2 => ⟨S_, .i32⟩
  | 3 => ⟨S64x1000000, .i32⟩
  | 4 => ⟨S64x1000000, .i32⟩
  | 5 => ⟨S_, .i32⟩
  | 6 => ⟨S64x1000000, .i32⟩
  | 7 => ⟨S64x1000000, .i32⟩
  | 8 => ⟨S64x1000000, .f32⟩
  | 9 => ⟨S_, .f32⟩
  | 10 => ⟨S64x1000000, .f32⟩
  | 11 => ⟨S64x1000000, .f32⟩
  | 12 => ⟨S1x1, .f32⟩
  | 13 => ⟨S64x1000000, .f32⟩
  | 14 => ⟨S64x1000000, .f32⟩
  | 15 => ⟨S64x1000000, .f32⟩
  | 16 => ⟨S64x1000000, .f32⟩
  | 17 => ⟨S64x1000000, .f32⟩
  | 18 => ⟨S64x1000000, .f32⟩
  | 19 => ⟨S_, .f32⟩
  | 20 => ⟨S64x1000000, .f32⟩
  | 21 => ⟨S64x1000000, .f32⟩
  | 22 => ⟨S64x1000000, .f32⟩
  | 23 => ⟨S64x1000000, .f32⟩
  | 24 => ⟨S64x1000000, .f32⟩
  | 25 => ⟨S64x1000000, .f32⟩
  | 26 => ⟨S64x1000000, .f32⟩
  | 27 => ⟨S64x1000000, .i32⟩
  | 28 => ⟨S_, .f32⟩
  | 29 => ⟨S_, .i32⟩
  | 30 => ⟨S64, .f32⟩
  | 31 => ⟨S64, .i32⟩
  | _ => ⟨S64x1000000, .f32⟩

abbrev hbmTy (i : Nat) : BufTy := match i / 128 with
  | 0 => hbmTy0_0 i
  | 1 => hbmTy0_1 i
  | 2 => hbmTy0_2 i
  | _ => ⟨S64x1000000, .f32⟩

abbrev bufTy : (tb : Table) → Fin (tcTables nBuf tb) → BufTy
  | .hbm, ⟨i, _⟩ => hbmTy i
  | _, _ => ⟨S64x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_c : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v19_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v19_1 : Ref sig .tc := ⟨.hbm, 256, rfl⟩
abbrev main_call0_v20 : Ref sig .tc := ⟨.hbm, 257, rfl⟩
abbrev main_call0_c_2 : Ref sig .tc := ⟨.hbm, 258, rfl⟩
abbrev main_call0_v21 : Ref sig .tc := ⟨.hbm, 259, rfl⟩
abbrev main_call0_v22 : Ref sig .tc := ⟨.hbm, 260, rfl⟩
abbrev main_call0_c_3 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_cst : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_v30 : Ref sig .tc := ⟨.hbm, 270, rfl⟩
abbrev main_call0_v31 : Ref sig .tc := ⟨.hbm, 271, rfl⟩
abbrev main_call0_v32 : Ref sig .tc := ⟨.hbm, 272, rfl⟩
abbrev main_call0_v33 : Ref sig .tc := ⟨.hbm, 273, rfl⟩
abbrev main_v7 : Ref sig .tc := ⟨.hbm, 274, rfl⟩
abbrev main_cst_3 : Ref sig .tc := ⟨.hbm, 275, rfl⟩
abbrev main_v8 : Ref sig .tc := ⟨.hbm, 276, rfl⟩
abbrev main_v9 : Ref sig .tc := ⟨.hbm, 277, rfl⟩
abbrev main_v10 : Ref sig .tc := ⟨.hbm, 278, rfl⟩
abbrev main_v11 : Ref sig .tc := ⟨.hbm, 279, rfl⟩
abbrev main_v12 : Ref sig .tc := ⟨.hbm, 280, rfl⟩
abbrev main_v13 : Ref sig .tc := ⟨.hbm, 281, rfl⟩
abbrev main_v14 : Ref sig .tc := ⟨.hbm, 282, rfl⟩
abbrev main_call1_v0 : Ref sig .tc := ⟨.hbm, 283, rfl⟩
abbrev main_call1_cst : Ref sig .tc := ⟨.hbm, 284, rfl⟩
abbrev main_call1_c : Ref sig .tc := ⟨.hbm, 285, rfl⟩
abbrev main_call1_v1_0 : Ref sig .tc := ⟨.hbm, 286, rfl⟩
abbrev main_v15 : Ref sig .tc := ⟨.hbm, 287, rfl⟩

abbrev nD : Nat := 1
abbrev τ : Topo := Topo.v7x

variable {F : FTy → Type} [FloatOps F]
-- ==== Proof.Paths.lean ====
/-
  The word-level kernel's body ends, at every grid point, with its input block as it was: whatever the output block and the
  two scratch buffers hold before, they hold something afterwards.
-/
module

public import proofs.«01_k».proof.Proof.Gen.Kernel.Loops
public import proofs.«01_k».proof.Proof.Gen.Kernel.Frame
public import Mathlib.Tactic.IntervalCases

@[expose] public section

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-- A grid point takes one of three paths. -/
theorem paths (i : grid0.Coords) :
    (k0_cond1 i = 1#1 ∧ k0_cond2 i = 1#1 ∧ ¬ k0_cond3 i = 1#1) ∨ (¬ k0_cond1 i = 1#1 ∧ k0_cond2 i = 1#1 ∧ ¬ k0_cond3 i = 1#1)
      ∨ (¬ k0_cond1 i = 1#1 ∧ ¬ k0_cond2 i = 1#1 ∧ k0_cond3 i = 1#1) := by
  unfold k0_cond1 k0_cond2 k0_cond3
  generalize hj : (i 0).val = j
  have hlt : j < 16 := hj ▸ (i 0).isLt
  interval_cases j <;> decide

set_option maxHeartbeats 8000000 in
set_option maxRecDepth 16384 in
/-- The body, from any contents of its four buffers. -/
theorem body_run (c : Dev nD) (i : grid0.Coords)
   (arg1 : Memref sig .tc .vmem S64x65536 .f32) (harg1 : arg1.IsWhole) (arg2 : Memref sig .tc .vmem S64x1 .i32) (harg2 : arg2.IsWhole)
   (arg3 : Memref sig .tc .vmem S64x128 .f32) (harg3 : arg3.IsWhole) (arg4 : Memref sig .tc .vmem S64x128 .i32) (harg4 : arg4.IsWhole)
   (X : BufTy.Contents (Elt F) arg1.view.ty) (f2 : BufTy.Contents (Elt F) arg2.view.ty) (f3 : BufTy.Contents (Elt F) arg3.view.ty) (f4 : BufTy.Contents (Elt F) arg4.view.ty)
   (E : Set ℕ) (K : PUnit → sProp 𝕄) :
   iprop(((arg1.view.loc (c : Thread nD τ) ↦[arg1.view.set]{fullShare} X) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4))
     ∗ (iprop((arg1.view.loc (c : Thread nD τ) ↦[arg1.view.set]{fullShare} X) ∗ (∃ f, arg2.view.loc (c : Thread nD τ) ↦[arg2.view.set]{fullShare} f)
        ∗ (∃ f, arg3.view.loc (c : Thread nD τ) ↦[arg3.view.set]{fullShare} f) ∗ (∃ f, arg4.view.loc (c : Thread nD τ) ↦[arg4.view.set]{fullShare} f)) -∗ K ⟨⟩)) ⊢
     wp frame (wpE (defs₀ (F := F)) Variants.none c none) E
          (cc0__sample_block_kernel i arg1 harg1 arg2 harg2 arg3 harg3 arg4 harg4) K := by
  rcases paths i with ⟨h1, h2, h3⟩ | ⟨h1, h2, h3⟩ | ⟨h1, h2, h3⟩ <;>
  · simp only [cc0__sample_block_kernel_eq_skeleton]; unfold cc0__sample_block_kernel_skel
    iintro ⟨⟨H1, H2, H3, H4⟩, Hk⟩
    sl_exec (disch := assumption)
    sl_step
    iapply Hk
    isplitl [H1]; · iexact H1
    isplitl [H2]; · iexists _; iexact H2
    isplitl [H3]; · iexists _; iexact H3
    iexists _; iexact H4

end Cert.Kernel.Body

end
-- ==== Proof.Frame.lean ====
/-
  The word-level kernel's run: it ends, with the logits unchanged and every counter at zero. Its output is not tracked.
-/
module

public import proofs.«01_k».proof.Proof.Paths

@[expose] public section

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The logits' block at point `t`: its part inside the array. -/
def xblk (c : Dev nD) (t : Fin cfg0.N) : (win0_0.xblock (grid0.coords t)).Idx → Elt F .f32 :=
  (win0_0.blk t).view.read (Elt F) (m ((c : Thread nD τ).loc main_arg0))

/-- The proof data: the arrays as launched, the input block as fetched, the scratch buffers at any contents. -/
def dats (_ : Fin 1) (c : Dev nD) : Dat τ (Elt F) Unit ℕ (UR sig nD τ) ℕ cfg0 c where
  A w := (s₀ m ρ).mem ((cfg0.win w).arr.view.loc (c : Thread nD τ))
  after w t := match w with
    | ⟨0, _⟩ => win0_0.fill (grid0.coords t) (fun _ => Scalar.ofBits .f32 0#32) (xblk m c t)
    | ⟨1, _⟩ => fun _ => 0#32
  Φ _ := Pipeline.ΦA spec0 c
  q _ := fullShare
  owed _ := 0

/-- The output window is not tracked. -/
abbrev forgot : Fin 2 → Bool := fun | 0 => false | 1 => true | ⟨_ + 2, h⟩ => absurd h (Nat.not_lt.2 (Nat.le_add_left _ _))

/-- What the input's buffer holds before a point: the fetched block over what was there. -/
theorem before_0 (c : Dev nD) (t : Fin cfg0.N) (d) :
    (dats m ρ 0 c).before (0 : Fin 2) t d = win0_0.fill (grid0.coords t) d (xblk m c t) := by
  unfold Dat.before; rw [if_pos (fetch0_0 t)]; rfl

/-- The table of bodies at a point is the kernel's body there. -/
theorem defs_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligationLoose (dats m ρ 0 c) (defs₀ (F := F)) Variants.none () Set.univ forgot := fun t => by
  rw [bigSep_W0, bigSep_W0, defs_row]
  simp only
  rw [show (dats m ρ 0 c).Φ t.succ = Pipeline.ΦA spec0 c from rfl, show (dats m ρ 0 c).Φ t.castSucc = Pipeline.ΦA spec0 c from rfl,
    show (dats m ρ 0 c).owesAt () t.succ = (dats m ρ 0 c).owesAt () t.castSucc from rfl]
  have e3 : (Memref.whole cc0_scratch0 : Memref sig .tc _ _ _).view.set = Finset.univ := (Memref.isWhole_whole cc0_scratch0).set_eq_univ
  have e4 : (Memref.whole cc0_scratch1 : Memref sig .tc _ _ _).view.set = Finset.univ := (Memref.isWhole_whole cc0_scratch1).set_eq_univ
  unfold Pipeline.ΦA
  simp only [scopedRest0_eq, owns, before_0]
  iintro ⟨⟨⟨⟨%f3, H3⟩, ⟨%f4, H4⟩⟩, HP⟩, Ho, ⟨%d, %X, %hX, H1⟩, ⟨%Y, %f2, %hf2, H2⟩⟩
  iapply (body_run (F := F) c (grid0.coords t) _ _ _ _ (Memref.whole cc0_scratch0) _ (Memref.whole cc0_scratch1) _ X f2 f3 f4 Set.univ _)
  isplitl [H1 H2 H3 H4]
  · isplitl [H1]; · iexact H1
    isplitl [H2]; · iexact H2
    isplitl [H3]
    · rw [e3]; iexact H3
    · rw [e4]; iexact H4
  iintro ⟨H1, ⟨%g2, H2⟩, ⟨%g3, H3⟩, ⟨%g4, H4⟩⟩
  rw [e3, e4]
  isplitl [H3 H4 HP]
  · isplitl [H3 H4]
    · isplitl [H3]
      · iexists g3; iexact H3
      · iexists g4; iexact H4
    · iexact HP
  isplitl [Ho]; · iexact Ho
  isplitl [H1]
  · iexists d; iexists X
    isplitr
    · ipureintro
      rw [hX]
      exact (congrArg (win0_0.fill (grid0.coords t) d) (win0_0.cut_fill (grid0.coords t) _ (xblk m c t))).symm
    · iexact H1
  · iexists _; iexists g2
    isplitr
    · ipureintro; rfl
    · iexact H2

/-- The result buffer is the one the lines after the region write. -/
theorem tail_writes : ∀ ops ∈ ([hostOps1] : List (List (HloOp τ sig (Elt F)))), ∀ op ∈ ops, ∀ b : Ref sig .tc, Proc.devRef .tc b ∈ op.writes → b ∈ ({main_v0} : Finset (Ref sig .tc)) := by
  intro ops hops op hop b hb
  simp only [List.mem_cons, List.mem_nil_iff, or_false] at hops
  subst hops
  simp only [hostOps1, List.mem_cons, List.mem_nil_iff, or_false] at hop
  subst hop
  simp only [StableHlo.reshape_writes, Finset.mem_singleton] at hb
  rw [Finset.mem_singleton]
  by_contra hne
  exact StableHlo.devRef_ne_of_ne hne hb

/-- The run of the word-level kernel: it ends, the logits are unchanged and every counter is zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  Pipeline.θ_run_frame_around_T_forget cfgs (dats m ρ) 0 launch0 defs₀ Variants.none forgot {main_v0} m ρ main
    (body_obligation m ρ) (fun c => (dats m ρ 0 c).share_full fun _ => rfl) (fun _ _ => rfl) (V0 m) [hostOps1] sfx_sub sfx_fresh sfx_keeps tail_writes
    (hmain m Variants.none) (fun _ _ => rfl) (fun _ _ => rfl) _
    (fun r h => ⟨fun c => (h.1.arr_in c 0 rfl).trans (V_main_arg0 m c), h.2⟩)

end Cert.Kernel.Body

end
-- ==== Proof.Runs.lean ====
/-
  The kernel's body, run symbolically. A grid point takes one of three paths: the first point clears the two scratch
  buffers and the output block and then scans its block; a middle point only scans; the last point scans the columns
  left and writes the output. Each definition below holds what the three buffers contain afterwards, together with
  the proof that the body ends there.
-/
module

public import proofs.«01_k».proof.Proof.Gen.KernelIdeal.Loops
public import proofs.«01_k».proof.Proof.Gen.KernelIdeal.Frame

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

set_option maxHeartbeats 4000000 in
set_option maxRecDepth 16384 in
/-- The first grid point: it clears the running maximum, the running column and the output, then scans its block. -/
def firstRun (c : Dev nD) (i : grid0.Coords) (h1 : k0_cond1 i = 1#1) (h2 : k0_cond2 i = 1#1) (h3 : ¬ k0_cond3 i = 1#1)
   (arg1 : Memref sig .tc .vmem S64x65536 .f32) (harg1 : arg1.IsWhole) (arg2 : Memref sig .tc .vmem S64x1 .i32) (harg2 : arg2.IsWhole)
   (arg3 : Memref sig .tc .vmem S64x128 .f32) (harg3 : arg3.IsWhole) (arg4 : Memref sig .tc .vmem S64x128 .i32) (harg4 : arg4.IsWhole)
   (X : BufTy.Contents (Elt F) arg1.view.ty) (f2 : BufTy.Contents (Elt F) arg2.view.ty) (f3 : BufTy.Contents (Elt F) arg3.view.ty) (f4 : BufTy.Contents (Elt F) arg4.view.ty) :
   { R : BufTy.Contents (Elt F) arg2.view.ty × BufTy.Contents (Elt F) arg3.view.ty × BufTy.Contents (Elt F) arg4.view.ty // ∀ (E : Set ℕ) (K : PUnit → sProp 𝕄),
   iprop(((arg1.view.loc (c : Thread nD τ) ↦[arg1.view.set]{fullShare} X) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4))
     ∗ (iprop((arg1.view.loc (c : Thread nD τ) ↦[arg1.view.set]{fullShare} X) ∗ (arg2.view.loc (c : Thread nD τ) ↦[arg2.view.set]{fullShare} R.1)
        ∗ (arg3.view.loc (c : Thread nD τ) ↦[arg3.view.set]{fullShare} R.2.1) ∗ (arg4.view.loc (c : Thread nD τ) ↦[arg4.view.set]{fullShare} R.2.2)) -∗ K ⟨⟩)) ⊢
     wp frame (wpE (defs₀ (F := F)) Variants.none c none) E
          (cc0__sample_block_kernel i arg1 harg1 arg2 harg2 arg3 harg3 arg4 harg4) K } := by
  refine ⟨(?_, ?_, ?_), fun E K => ?run⟩
  case run =>
    simp only [cc0__sample_block_kernel_eq_skeleton]; unfold cc0__sample_block_kernel_skel
    iintro ⟨⟨H1, H2, H3, H4⟩, Hk⟩
    sl_exec (disch := assumption)
    sl_step
    iapply Hk
    isplitl [H1]; · iexact H1
    isplitl [H2]; · iexact H2
    isplitl [H3]; · iexact H3
    iexact H4

set_option maxHeartbeats 4000000 in
set_option maxRecDepth 16384 in
/-- A middle grid point: it scans its block, going on from the running maximum and column it finds. -/
def midRun (c : Dev nD) (i : grid0.Coords) (h1 : ¬ k0_cond1 i = 1#1) (h2 : k0_cond2 i = 1#1) (h3 : ¬ k0_cond3 i = 1#1)
   (arg1 : Memref sig .tc .vmem S64x65536 .f32) (harg1 : arg1.IsWhole) (arg2 : Memref sig .tc .vmem S64x1 .i32) (harg2 : arg2.IsWhole)
   (arg3 : Memref sig .tc .vmem S64x128 .f32) (harg3 : arg3.IsWhole) (arg4 : Memref sig .tc .vmem S64x128 .i32) (harg4 : arg4.IsWhole)
   (X : BufTy.Contents (Elt F) arg1.view.ty) (f2 : BufTy.Contents (Elt F) arg2.view.ty) (f3 : BufTy.Contents (Elt F) arg3.view.ty) (f4 : BufTy.Contents (Elt F) arg4.view.ty) :
   { R : BufTy.Contents (Elt F) arg2.view.ty × BufTy.Contents (Elt F) arg3.view.ty × BufTy.Contents (Elt F) arg4.view.ty // ∀ (E : Set ℕ) (K : PUnit → sProp 𝕄),
   iprop(((arg1.view.loc (c : Thread nD τ) ↦[arg1.view.set]{fullShare} X) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4))
     ∗ (iprop((arg1.view.loc (c : Thread nD τ) ↦[arg1.view.set]{fullShare} X) ∗ (arg2.view.loc (c : Thread nD τ) ↦[arg2.view.set]{fullShare} R.1)
        ∗ (arg3.view.loc (c : Thread nD τ) ↦[arg3.view.set]{fullShare} R.2.1) ∗ (arg4.view.loc (c : Thread nD τ) ↦[arg4.view.set]{fullShare} R.2.2)) -∗ K ⟨⟩)) ⊢
     wp frame (wpE (defs₀ (F := F)) Variants.none c none) E
          (cc0__sample_block_kernel i arg1 harg1 arg2 harg2 arg3 harg3 arg4 harg4) K } := by
  refine ⟨(?_, ?_, ?_), fun E K => ?run⟩
  case run =>
    simp only [cc0__sample_block_kernel_eq_skeleton]; unfold cc0__sample_block_kernel_skel
    iintro ⟨⟨H1, H2, H3, H4⟩, Hk⟩
    sl_exec (disch := assumption)
    sl_step
    iapply Hk
    isplitl [H1]; · iexact H1
    isplitl [H2]; · iexact H2
    isplitl [H3]; · iexact H3
    iexact H4

set_option maxHeartbeats 4000000 in
set_option maxRecDepth 16384 in
/-- The last grid point: it scans the columns left in the array and writes the column found for each row. -/
def lastRun (c : Dev nD) (i : grid0.Coords) (h1 : ¬ k0_cond1 i = 1#1) (h2 : ¬ k0_cond2 i = 1#1) (h3 : k0_cond3 i = 1#1)
   (arg1 : Memref sig .tc .vmem S64x65536 .f32) (harg1 : arg1.IsWhole) (arg2 : Memref sig .tc .vmem S64x1 .i32) (harg2 : arg2.IsWhole)
   (arg3 : Memref sig .tc .vmem S64x128 .f32) (harg3 : arg3.IsWhole) (arg4 : Memref sig .tc .vmem S64x128 .i32) (harg4 : arg4.IsWhole)
   (X : BufTy.Contents (Elt F) arg1.view.ty) (f2 : BufTy.Contents (Elt F) arg2.view.ty) (f3 : BufTy.Contents (Elt F) arg3.view.ty) (f4 : BufTy.Contents (Elt F) arg4.view.ty) :
   { R : BufTy.Contents (Elt F) arg2.view.ty × BufTy.Contents (Elt F) arg3.view.ty × BufTy.Contents (Elt F) arg4.view.ty // ∀ (E : Set ℕ) (K : PUnit → sProp 𝕄),
   iprop(((arg1.view.loc (c : Thread nD τ) ↦[arg1.view.set]{fullShare} X) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4))
     ∗ (iprop((arg1.view.loc (c : Thread nD τ) ↦[arg1.view.set]{fullShare} X) ∗ (arg2.view.loc (c : Thread nD τ) ↦[arg2.view.set]{fullShare} R.1)
        ∗ (arg3.view.loc (c : Thread nD τ) ↦[arg3.view.set]{fullShare} R.2.1) ∗ (arg4.view.loc (c : Thread nD τ) ↦[arg4.view.set]{fullShare} R.2.2)) -∗ K ⟨⟩)) ⊢
     wp frame (wpE (defs₀ (F := F)) Variants.none c none) E
          (cc0__sample_block_kernel i arg1 harg1 arg2 harg2 arg3 harg3 arg4 harg4) K } := by
  refine ⟨(?_, ?_, ?_), fun E K => ?run⟩
  case run =>
    simp only [cc0__sample_block_kernel_eq_skeleton]; unfold cc0__sample_block_kernel_skel
    iintro ⟨⟨H1, H2, H3, H4⟩, Hk⟩
    sl_exec (disch := assumption)
    sl_step
    iapply Hk
    isplitl [H1]; · iexact H1
    isplitl [H2]; · iexact H2
    isplitl [H3]; · iexact H3
    iexact H4

end Cert.KernelIdeal.Body

end
-- ==== Proof.Words.lean ====
/-
  The random words. A word of the generator is a fixed function of a 32-bit counter: twenty rounds of adding, rotating
  and exclusive-or, with a key added after every fourth round. `word` is that function for the key (0, 42) with
  the counter's high half zero, on the counter's low half with the key's second half already added.
-/
module

public import Idealize.ShloMosaic.PureOps.Vector

@[expose] public section

namespace Cert.Words

/-- A word rotated left by `r` bits, its two parts joined by exclusive-or. -/
def rl (r : Nat) (b : BitVec 32) : BitVec 32 := (b <<< r) ^^^ (b >>> (32 - r))

/-- The second word of a pair after one round's rotation. -/
def mix (r : Nat) (a b : BitVec 32) : BitVec 32 := rl r b ^^^ a

/-- One round: the first word already holds the sum of the two words before the round, and does again after it. -/
def rnd (r : Nat) (p : BitVec 32 × BitVec 32) : BitVec 32 × BitVec 32 := (p.1 + mix r p.1 p.2, mix r p.1 p.2)

/-- One round followed by the addition of a key to each word. -/
def inj (r : Nat) (k c : BitVec 32) (p : BitVec 32 × BitVec 32) : BitVec 32 × BitVec 32 :=
  ((p.1 + k) + (mix r p.1 p.2 + c), mix r p.1 p.2 + c)

/-- One round followed by the addition of a key to the second word only: the first word's key is zero. -/
def injz (r : Nat) (c : BitVec 32) (p : BitVec 32 × BitVec 32) : BitVec 32 × BitVec 32 :=
  (p.1 + (mix r p.1 p.2 + c), mix r p.1 p.2 + c)

/-- The last round, the last keys, and the two words joined. -/
def fin (r : Nat) (k c : BitVec 32) (p : BitVec 32 × BitVec 32) : BitVec 32 :=
  (p.1 + k) ^^^ (mix r p.1 p.2 + c)

/-- The first five rounds. -/
def part1 (w : BitVec 32) : BitVec 32 × BitVec 32 := rnd 17 (inj 6 42#32 466689009#32 (rnd 26 (rnd 15 (rnd 13 (w, w)))))
/-- Rounds six to eleven. -/
def part2 (p : BitVec 32 × BitVec 32) : BitVec 32 × BitVec 32 := rnd 26 (rnd 15 (rnd 13 (inj 24 466689008#32 2#32 (rnd 16 (rnd 29 p)))))
/-- Rounds twelve to seventeen. -/
def part3 (p : BitVec 32 × BitVec 32) : BitVec 32 × BitVec 32 :=
  rnd 13 (inj 24 42#32 466689012#32 (rnd 16 (rnd 29 (rnd 17 (injz 6 45#32 p)))))
/-- The last three rounds. -/
def part4 (p : BitVec 32 × BitVec 32) : BitVec 32 := fin 6 466689008#32 5#32 (rnd 26 (rnd 15 p))

/-- The word drawn at a counter. -/
def word (w : BitVec 32) : BitVec 32 := part4 (part3 (part2 (part1 w)))

variable {F : Idealize.ShloMosaic.FTy → Type} [Idealize.ShloMosaic.FloatOps F]
open Idealize.ShloMosaic

/-- The number in the unit interval made from a word: its top 23 bits become the fraction of a number from one to
    two, one is taken off, and the result is kept above the smallest normal number. -/
def unit (b : BitVec 32) : F .f32 :=
  FloatOps.maximumf (FloatOps.subf (FloatOps.ofBits .f32 (b >>> 9 ||| 1065353216#32)) (Scalar.ofBits .f32 0x3F800000#32))
    (Scalar.ofBits .f32 0x00800000#32)

/-- A column's score from its number in the unit interval and its logit. -/
def score (u x : F .f32) : F .f32 :=
  FloatOps.addf (FloatOps.subf (Scalar.ofBits .f32 0x00000000#32)
    (FloatOps.log (FloatOps.subf (Scalar.ofBits .f32 0x00000000#32) (FloatOps.log u)))) x

end Cert.Words

end
-- ==== Proof.Trip.lean ====
module

public import proofs.«01_k».proof.Proof.Gen.KernelIdeal.Loops
public import proofs.«01_k».proof.Proof.Words

@[expose] public section

noncomputable section

namespace Cert.KernelIdeal.Body

open Cert.KernelIdeal Cert.KernelIdeal.Gen Cert.Words
open Idealize.ShloMosaic Idealize.ShloMosaic.TcCoe

variable {F : FTy → Type} [FloatOps F]

/-- The first stage of a full block's trip. -/
theorem t1_part1 (v11 : IVec S64x128 32) (k : Fin k0_t1_loop.trips) (ix : S64x128.Idx) :
    (k0_pay20 v11 1#32 1#32 k ix, k0_pay19 v11 1#32 1#32 k ix) = part1 (k0_pay10 v11 1#32 1#32 k ix) := rfl
/-- Its second stage. -/
theorem t1_part2 (v252 v253 : IVec S64x128 32) (ix : S64x128.Idx) :
    (k0_pay33 v252 v253 (shli v252 (broadcast S64x128 29#32)) 3#32 ix, k0_pay32 v252 v253 (shli v252 (broadcast S64x128 29#32)) 3#32 ix)
      = part2 (v253 ix, v252 ix) := rfl
/-- Its third stage. -/
theorem t1_part3 (v298 v299 : IVec S64x128 32) (ix : S64x128.Idx) :
    (k0_pay46 v298 v299 (shli v298 (broadcast S64x128 6#32)) 26#32 ix, k0_pay45 v298 v299 (shli v298 (broadcast S64x128 6#32)) 26#32 ix)
      = part3 (v299 ix, v298 ix) := rfl
/-- Its last stage, and the number in the unit interval. -/
theorem t1_part4 (v346 v347 : IVec S64x128 32) (ix : S64x128.Idx) :
    k0_pay47 (F := F) v346 v347 15#32 ix = unit (part4 (v347 ix, v346 ix)) := rfl

/-- The uniform numbers the loop draws for trip `k`. -/
def u1 (v11 : IVec S64x128 32) (k : Fin k0_t1_loop.trips) : FVec F S64x128 .f32 :=
  let b1 := k0_pay19 v11 1#32 1#32 k
  let a1 := k0_pay20 v11 1#32 1#32 k
  let b2 := k0_pay32 b1 a1 (shli b1 (broadcast S64x128 29#32)) 3#32
  let a2 := k0_pay33 b1 a1 (shli b1 (broadcast S64x128 29#32)) 3#32
  let b3 := k0_pay45 b2 a2 (shli b2 (broadcast S64x128 6#32)) 26#32
  let a3 := k0_pay46 b2 a2 (shli b2 (broadcast S64x128 6#32)) 26#32
  k0_pay47 b3 a3 15#32

/-- They are made from the words of the counters of trip `k`. -/
theorem u1_apply (v11 : IVec S64x128 32) (k : Fin k0_t1_loop.trips) (ix : S64x128.Idx) :
    u1 (F := F) v11 k ix = unit (word (v11 ix + Scf.iv 1#32 1#32 k * 128#32)) := by
  unfold u1; rw [t1_part4, t1_part3, t1_part2, t1_part1]; rfl

/-- The last rounds of the first 128 columns of a full block, and their uniform numbers. -/
theorem first_part4 (a b : IVec S64x128 32) (ix : S64x128.Idx) :
    k0_pay87 (F := F) a (shli b (broadcast S64x128 15#32)) (shrui b (broadcast S64x128 17#32)) ix = unit (part4 (a ix, b ix)) := rfl

/-! ### The later columns of the last block -/

/-- The first stage of a last block's trip. -/
theorem t2_part1 (i : grid0.Coords) (v11 : IVec S64x128 32) (k : Fin (k0_t2_loop i).trips) (ix : S64x128.Idx) :
    (k0_pay101 i v11 1#32 1#32 k ix, k0_pay100 i v11 1#32 1#32 k ix) = part1 (k0_pay91 i v11 1#32 1#32 k ix) := rfl
/-- Its second stage. -/
theorem t2_part2 (b a : IVec S64x128 32) (ix : S64x128.Idx) :
    (k0_pay114 b a (shli b (broadcast S64x128 29#32)) 3#32 ix, k0_pay113 b a (shli b (broadcast S64x128 29#32)) 3#32 ix)
      = part2 (a ix, b ix) := rfl
/-- Its third stage. -/
theorem t2_part3 (b a : IVec S64x128 32) (ix : S64x128.Idx) :
    (k0_pay127 b a (shli b (broadcast S64x128 6#32)) 26#32 ix, k0_pay126 b a (shli b (broadcast S64x128 6#32)) 26#32 ix)
      = part3 (a ix, b ix) := rfl
/-- Its last stage, and the number in the unit interval. -/
theorem t2_part4 (b a : IVec S64x128 32) (ix : S64x128.Idx) :
    k0_pay128 (F := F) b a 15#32 ix = unit (part4 (a ix, b ix)) := rfl

/-- The uniform numbers the last block's loop draws for trip `k`. -/
def u3 (i : grid0.Coords) (v11 : IVec S64x128 32) (k : Fin (k0_t2_loop i).trips) : FVec F S64x128 .f32 :=
  let b1 := k0_pay100 i v11 1#32 1#32 k
  let a1 := k0_pay101 i v11 1#32 1#32 k
  let b2 := k0_pay113 b1 a1 (shli b1 (broadcast S64x128 29#32)) 3#32
  let a2 := k0_pay114 b1 a1 (shli b1 (broadcast S64x128 29#32)) 3#32
  let b3 := k0_pay126 b2 a2 (shli b2 (broadcast S64x128 6#32)) 26#32
  let a3 := k0_pay127 b2 a2 (shli b2 (broadcast S64x128 6#32)) 26#32
  k0_pay128 b3 a3 15#32

/-- They are made from the words of the counters of trip `k`. -/
theorem u3_apply (i : grid0.Coords) (v11 : IVec S64x128 32) (k : Fin (k0_t2_loop i).trips) (ix : S64x128.Idx) :
    u3 (F := F) i v11 k ix = unit (word (v11 ix + Scf.iv 1#32 1#32 k * 128#32)) := by
  unfold u3; rw [t2_part4, t2_part3, t2_part2, t2_part1]; rfl

/-- The columns of the block that trip `k` reads. -/
abbrev row1 (i : grid0.Coords) (h2 : k0_cond2 i = 1#1) (arg1 : Memref sig .tc .vmem S64x65536 .f32) (X : BufTy.Contents (Elt F) arg1.view.ty) (k : Fin k0_t1_loop.trips) : Vec F S64x128 .f32 :=
  arg1.view.readAt (Elt F) (Rect.unit (s := S64x65536) (k0_off1 k) S64x128.size (k0_off1_inb i k h2)).toLoadRect X

/-- A trip of the full blocks' loop: it draws the next chunk's numbers and scores the chunk before. -/
theorem trip1 (c : Dev nD) (i : grid0.Coords) (arg1 : Memref sig .tc .vmem S64x65536 .f32) (harg1 : arg1.IsWhole) (arg2 : Memref sig .tc .vmem S64x1 .i32) (harg2 : arg2.IsWhole)
   (arg3 : Memref sig .tc .vmem S64x128 .f32) (harg3 : arg3.IsWhole) (arg4 : Memref sig .tc .vmem S64x128 .i32) (harg4 : arg4.IsWhole)
   (arg0 : BitVec 32) (v11 : IVec S64x128 32) (h2 : k0_cond2 i = 1#1) (v153 v155 v157 : IVec S64x128 32)
   (X : BufTy.Contents (Elt F) arg1.view.ty) (k : Fin k0_t1_loop.trips) (acc : Vec F S64x128 .f32 × Vec F S64x128 .i32 × FVec F S64x128 .f32) (ix : S64x128.Idx) :
   let R := tripR_k0_t1 Variants.none c none i arg1 harg1 arg2 harg2 arg3 harg3 arg4 harg4 arg0 v11 h2 v153 v155 v157 X k acc
   R.1 ix = FloatOps.maximumf (score (acc.2.2 ix) (row1 i h2 arg1 X k ix)) (acc.1 ix)
   ∧ R.2.1 ix = Scalar.select (FloatOps.cmpf .ogt (score (acc.2.2 ix) (row1 i h2 arg1 X k ix)) (acc.1 ix))
        (arg0 * 65536#32 + (Scf.iv 1#32 1#32 k * 128#32 - 128#32)) (acc.2.1 ix)
   ∧ R.2.2 ix = unit (word (v11 ix + Scf.iv 1#32 1#32 k * 128#32)) := by
  unfold tripR_k0_t1 trip_k0_t1
  exact ⟨rfl, rfl, u1_apply v11 k ix⟩
/-- The columns of the last block that trip `k` of its loop reads. -/
abbrev row2 (i : grid0.Coords) (h3 : k0_cond3 i = 1#1) (arg1 : Memref sig .tc .vmem S64x65536 .f32) (X : BufTy.Contents (Elt F) arg1.view.ty) (k : Fin (k0_t2_loop i).trips) : Vec F S64x128 .f32 :=
  arg1.view.readAt (Elt F) (Rect.unit (s := S64x65536) (k0_off2 i k) S64x128.size (k0_off2_inb i k h3)).toLoadRect X

/-- The score, or minus infinity where the lane's column is outside the array. -/
abbrev masked (l m : BitVec 32) (s : F .f32) : F .f32 := Scalar.select (IntOp.cmpi .slt l m) s (Scalar.ofBits .f32 0xFF800000#32)

/-- One trip of the last block's loop, lane by lane. -/
theorem trip2 (c : Dev nD) (i : grid0.Coords) (arg1 : Memref sig .tc .vmem S64x65536 .f32) (harg1 : arg1.IsWhole) (arg2 : Memref sig .tc .vmem S64x1 .i32) (harg2 : arg2.IsWhole)
   (arg3 : Memref sig .tc .vmem S64x128 .f32) (harg3 : arg3.IsWhole) (arg4 : Memref sig .tc .vmem S64x128 .i32) (harg4 : arg4.IsWhole)
   (arg0 v2 : BitVec 32) (v4 v11 : IVec S64x128 32) (h3 : k0_cond3 i = 1#1) (v39 : BitVec 32) (v199 v200 : IVec S64x128 32)
   (X : BufTy.Contents (Elt F) arg1.view.ty) (k : Fin (k0_t2_loop i).trips) (acc : Vec F S64x128 .f32 × Vec F S64x128 .i32 × FVec F S64x128 .f32) (ix : S64x128.Idx)
   (b0 b1 : BitVec 32) (hb0 : Scf.iv 1#32 1#32 k * 128#32 - 128#32 = b0) (hb1 : Scf.iv 1#32 1#32 k * 128#32 = b1)
   (s : F .f32) (hs : masked (v4 ix) (v2 - b0) (score (acc.2.2 ix) (row2 i h3 arg1 X k ix)) = s) :
   (tripR_k0_t2 Variants.none c none i arg1 harg1 arg2 harg2 arg3 harg3 arg4 harg4 arg0 v2 v4 v11 h3 v39 v199 v200 X k acc).1 ix = FloatOps.maximumf s (acc.1 ix)
   ∧ (tripR_k0_t2 Variants.none c none i arg1 harg1 arg2 harg2 arg3 harg3 arg4 harg4 arg0 v2 v4 v11 h3 v39 v199 v200 X k acc).2.1 ix
      = Scalar.select (FloatOps.cmpf .ogt s (acc.1 ix)) (arg0 * 65536#32 + b0) (acc.2.1 ix)
   ∧ (tripR_k0_t2 Variants.none c none i arg1 harg1 arg2 harg2 arg3 harg3 arg4 harg4 arg0 v2 v4 v11 h3 v39 v199 v200 X k acc).2.2 ix = unit (word (v11 ix + b1)) := by
  subst hb0 hb1 hs
  unfold tripR_k0_t2 trip_k0_t2
  exact ⟨rfl, rfl, u3_apply i v11 k ix⟩

end Cert.KernelIdeal.Body
end
-- ==== Proof.Scan.lean ====
/-
  The running pair of one row and one lane. The columns of a row are taken 128 at a time; lane `l` of chunk `n` is column
  `128 n + l`. The pair holds the largest score so far and the first column of the chunk it was found in.
-/
module

public import proofs.«01_k».proof.Proof.Words

@[expose] public section

noncomputable section

namespace Cert.Words

open Idealize.ShloMosaic

variable {F : FTy → Type} [FloatOps F]

/-- The counter word of row `r`, column `q`: the position in the array, plus the key. -/
def ctr (r q : ℕ) : BitVec 32 := BitVec.ofNat 32 (r * 1000000 + q + 42)

/-- The score of row `r`, column `q`, where `x` gives the logits; minus infinity outside the array. -/
def cell (x : ℕ → ℕ → F .f32) (r q : ℕ) : F .f32 :=
  if q < 1000000 then score (unit (word (ctr r q))) (x r q) else Scalar.ofBits .f32 0xFF800000#32

/-- The running pair after one more score `s`, found in chunk `n`. -/
def step (s : F .f32) (n : ℕ) (a : F .f32 × BitVec 32) : F .f32 × BitVec 32 :=
  (FloatOps.maximumf s a.1, Scalar.select (FloatOps.cmpf .ogt s a.1) (BitVec.ofNat 32 (128 * n)) a.2)

/-- The running pair of row `r`, lane `l`, before chunk `n`. -/
def run (x : ℕ → ℕ → F .f32) (r l : ℕ) : ℕ → F .f32 × BitVec 32
  | 0 => (Scalar.ofBits .f32 0xFF800000#32, 0#32)
  | n + 1 => step (cell x r (128 * n + l)) n (run x r l n)

/-- Before the first chunk. -/
theorem run_zero (x : ℕ → ℕ → F .f32) (r l : ℕ) : run x r l 0 = (Scalar.ofBits .f32 0xFF800000#32, 0#32) := rfl

/-- One more chunk. -/
theorem run_succ (x : ℕ → ℕ → F .f32) (r l n : ℕ) : run x r l (n + 1) = step (cell x r (128 * n + l)) n (run x r l n) := rfl

/-- One chunk's step, written out. -/
theorem run_step (x : ℕ → ℕ → F .f32) (r l n : ℕ) (a : F .f32) (b : BitVec 32) (h : (a, b) = run x r l n) :
    (FloatOps.maximumf (cell x r (128 * n + l)) a, Scalar.select (FloatOps.cmpf .ogt (cell x r (128 * n + l)) a) (BitVec.ofNat 32 (128 * n)) b)
      = run x r l (n + 1) := by rw [run_succ, ← h]; rfl

/-- A cell inside the array holds its score. -/
theorem cell_of_lt (x : ℕ → ℕ → F .f32) (r q : ℕ) (h : q < 1000000) : cell x r q = score (unit (word (ctr r q))) (x r q) := if_pos h

end Cert.Words
end
-- ==== Proof.Block.lean ====
/-
  What one grid point computes: the two scratch buffers after its block are the running pairs of all rows and lanes, taken
  512 chunks further (for the last point, to the end of the array).
-/
module

public import proofs.«01_k».proof.Proof.Runs
public import proofs.«01_k».proof.Proof.Trip
public import proofs.«01_k».proof.Proof.Scan
public import Idealize.ShloMosaic.Lib.VecWindow
public import Idealize.ShloMosaic.Lib.Pipeline.Value
public import Mathlib.Tactic.IntervalCases

@[expose] public section

noncomputable section

namespace Cert.KernelIdeal.Body

open Cert.KernelIdeal Cert.KernelIdeal.Gen Cert.Words
open Idealize.ShloMosaic

variable {F : FTy → Type} [FloatOps F]

/-! ### Words -/

/-- The counter words a block begins with. -/
theorem pay1_apply (i : grid0.Coords) (ix : S64x128.Idx) : k0_pay1 i ix = ctr (ix 0).val ((i 0).val * 65536 + (ix 1).val) := by
  have e : k0_pay1 i ix = (BitVec.ofNat 32 (ix 0).val * BitVec.ofNat 32 1000000 + BitVec.ofNat 32 (ix 1).val)
      + (BitVec.ofNat 32 (i 0).val * BitVec.ofNat 32 65536 + BitVec.ofNat 32 42) := by
    have e0 : iota .tc S64x128 32 [0] iota_S64x128_d0_w32 ix = BitVec.ofNat 32 (ix 0).val := by simp [iota]
    have e1 : iota .tc S64x128 32 [1] iota_S64x128_d1_w32 ix = BitVec.ofNat 32 (ix 1).val := by simp [iota]
    rw [← e0, ← e1]; rfl
  rw [e, ctr]; simp only [← BitVec.ofNat_mul, ← BitVec.ofNat_add]; exact congrArg (BitVec.ofNat 32) (by omega)

/-- A lane's number. -/
theorem lane_apply (ix : S64x128.Idx) : iota .tc S64x128 32 [1] iota_S64x128_d1_w32 ix = BitVec.ofNat 32 (ix 1).val := by simp [iota]

/-- The column offset of a loop's trip `k`, which is chunk `k + 1` of the block. -/
theorem iv_eq (k : ℕ) : Scf.iv 1#32 1#32 k * 128#32 = BitVec.ofNat 32 (128 * (k + 1)) := by
  unfold Scf.iv
  rw [show (1#32) = BitVec.ofNat 32 1 from rfl, show (128#32) = BitVec.ofNat 32 128 from rfl]
  simp only [← BitVec.ofNat_mul, ← BitVec.ofNat_add]; exact congrArg (BitVec.ofNat 32) (by omega)

/-- The offset one chunk earlier. -/
theorem iv_sub (k : ℕ) : Scf.iv 1#32 1#32 k * 128#32 - 128#32 = BitVec.ofNat 32 (128 * k) := by
  rw [iv_eq, show 128 * (k + 1) = 128 * k + 128 by omega, BitVec.ofNat_add]; exact BitVec.add_sub_cancel _ _

/-- Adding to a counter word moves it along its row. -/
theorem ctr_add (r q n : ℕ) : ctr r q + BitVec.ofNat 32 n = ctr r (q + n) := by
  unfold ctr; rw [← BitVec.ofNat_add]; exact congrArg (BitVec.ofNat 32) (by omega)

/-- A block's first column plus a chunk's offset, in words. -/
theorem base_add (j k : ℕ) : BitVec.ofNat 32 j * 65536#32 + BitVec.ofNat 32 (128 * k) = BitVec.ofNat 32 (128 * (512 * j + k)) := by
  rw [show (65536#32) = BitVec.ofNat 32 65536 from rfl]
  simp only [← BitVec.ofNat_mul, ← BitVec.ofNat_add]; exact congrArg (BitVec.ofNat 32) (by omega)

/-- The last block's mask: a lane counts when its column is inside the array. -/
theorem masked_apply (m : BitVec 32) (hm : m = 16960#32) (l k : ℕ) (hl : l < 128) (hk : k ≤ 132) (s : F .f32) :
    masked (BitVec.ofNat 32 l) (m - BitVec.ofNat 32 (128 * k)) s
      = if 128 * (7680 + k) + l < 1000000 then s else Scalar.ofBits .f32 0xFF800000#32 := by
  subst hm
  have e : (16960#32 - BitVec.ofNat 32 (128 * k)) = BitVec.ofNat 32 (16960 - 128 * k) := by
    rw [BitVec.sub_eq_iff_eq_add, ← BitVec.ofNat_add]; exact congrArg (BitVec.ofNat 32) (by omega)
  have hn (n : ℕ) (h : n < 65536) : (BitVec.ofNat 32 n).toInt = n := by
    rw [BitVec.toInt_eq_toNat_of_lt (by rw [BitVec.toNat_ofNat]; omega), BitVec.toNat_ofNat]; congr 1; omega
  have hs : IntOp.cmpi .slt (BitVec.ofNat 32 l) (BitVec.ofNat 32 (16960 - 128 * k)) = BitVec.ofBool (decide (l < 16960 - 128 * k)) := by
    unfold IntOp.cmpi
    show BitVec.ofBool ((BitVec.ofNat 32 l).slt (BitVec.ofNat 32 (16960 - 128 * k))) = _
    rw [BitVec.slt, hn _ (by omega), hn _ (by omega)]
    congr 1; simp only [Nat.cast_lt]
  unfold masked
  rw [e, hs]
  by_cases h : l < 16960 - 128 * k
  · rw [if_pos (by omega), decide_eq_true h]; rfl
  · rw [if_neg (by omega), decide_eq_false h]; rfl

/-- A block before the last takes the second path and is one of the first fifteen. -/
theorem coord_lt (i : grid0.Coords) (h2 : k0_cond2 i = 1#1) : (i 0).val < 15 := by
  revert h2; unfold k0_cond2
  generalize hj : (i 0).val = j
  have hlt : j < 16 := hj ▸ (i 0).isLt
  interval_cases j <;> decide

/-- The third path is the last block's. -/
theorem coord_last (i : grid0.Coords) (h3 : k0_cond3 i = 1#1) : (i 0).val = 15 := by
  revert h3; unfold k0_cond3
  generalize hj : (i 0).val = j
  have hlt : j < 16 := hj ▸ (i 0).isLt
  interval_cases j <;> decide

/-- The first path is the first block's. -/
theorem coord_first (i : grid0.Coords) (h1 : k0_cond1 i = 1#1) : (i 0).val = 0 := by
  revert h1; unfold k0_cond1
  generalize hj : (i 0).val = j
  have hlt : j < 16 := hj ▸ (i 0).isLt
  interval_cases j <;> decide

/-! ### The first 128 columns of a block -/

/-- The hash of the first point's first 128 columns, stage by stage. -/
theorem first_part1 (i : grid0.Coords) (ix : S64x128.Idx) : (firstRun.sl.v66 i ix, firstRun.sl.v65 i ix) = rnd 29 (part1 (k0_pay1 i ix)) := rfl
/-- The second stage, at the first point. -/
theorem first_part2 (i : grid0.Coords) (ix : S64x128.Idx) : (firstRun.sl.v105 i ix, firstRun.sl.v104 i ix)
    = rnd 26 (rnd 15 (rnd 13 (inj 24 466689008#32 2#32 (rnd 16 (firstRun.sl.v66 i ix, firstRun.sl.v65 i ix))))) := rfl
/-- The third stage, at the first point. -/
theorem first_part3 (i : grid0.Coords) (ix : S64x128.Idx) : (firstRun.sl.v153 i ix, firstRun.sl.v152 i ix)
    = part3 (firstRun.sl.v105 i ix, firstRun.sl.v104 i ix) := rfl

/-- The uniform numbers of the first point's first 128 columns. -/
theorem first_unit (i : grid0.Coords) (ix : S64x128.Idx) :
    k0_pay87 (F := F) (firstRun.sl.v153 i) (firstRun.sl.v155 i) (firstRun.sl.v157 i) ix = unit (word (k0_pay1 i ix)) := by
  refine (first_part4 (firstRun.sl.v153 i) (firstRun.sl.v152 i) ix).trans ?_
  rw [first_part3, first_part2, first_part1]; rfl

/-- The hash of the middle point's first 128 columns, stage by stage. -/
theorem mid_part1 (i : grid0.Coords) (ix : S64x128.Idx) : (midRun.sl.v66 i ix, midRun.sl.v65 i ix) = rnd 29 (part1 (k0_pay1 i ix)) := rfl
/-- The second stage, at a middle point. -/
theorem mid_part2 (i : grid0.Coords) (ix : S64x128.Idx) : (midRun.sl.v105 i ix, midRun.sl.v104 i ix)
    = rnd 26 (rnd 15 (rnd 13 (inj 24 466689008#32 2#32 (rnd 16 (midRun.sl.v66 i ix, midRun.sl.v65 i ix))))) := rfl
/-- The third stage, at a middle point. -/
theorem mid_part3 (i : grid0.Coords) (ix : S64x128.Idx) : (midRun.sl.v153 i ix, midRun.sl.v152 i ix)
    = part3 (midRun.sl.v105 i ix, midRun.sl.v104 i ix) := rfl

/-- The uniform numbers of the middle point's first 128 columns. -/
theorem mid_unit (i : grid0.Coords) (ix : S64x128.Idx) :
    k0_pay87 (F := F) (midRun.sl.v153 i) (midRun.sl.v155 i) (midRun.sl.v157 i) ix = unit (word (k0_pay1 i ix)) := by
  refine (first_part4 (midRun.sl.v153 i) (midRun.sl.v152 i) ix).trans ?_
  rw [mid_part3, mid_part2, mid_part1]; rfl

/-- The hash of the last point's first 128 columns, stage by stage. -/
theorem last_part1 (i : grid0.Coords) (ix : S64x128.Idx) : (lastRun.sl.v60 i ix, lastRun.sl.v59 i ix)
    = rnd 26 (rnd 15 (rnd 13 (k0_pay1 i ix, k0_pay1 i ix))) := rfl
/-- The second stage, at the last point. -/
theorem last_part2 (i : grid0.Coords) (ix : S64x128.Idx) : (lastRun.sl.v103 i ix + lastRun.sl.v109 i ix, lastRun.sl.v109 i ix)
    = rnd 13 (inj 24 466689008#32 2#32 (rnd 16 (rnd 29 (rnd 17 (inj 6 42#32 466689009#32 (lastRun.sl.v60 i ix, lastRun.sl.v59 i ix)))))) := rfl
/-- The third stage, at the last point. -/
theorem last_part3 (i : grid0.Coords) (ix : S64x128.Idx) : (lastRun.sl.v154 i ix, lastRun.sl.v153 i ix)
    = rnd 16 (rnd 29 (rnd 17 (injz 6 45#32 (rnd 26 (rnd 15 (lastRun.sl.v103 i ix + lastRun.sl.v109 i ix, lastRun.sl.v109 i ix)))))) := rfl
/-- The last stage, at the last point. -/
theorem last_part4 (i : grid0.Coords) (ix : S64x128.Idx) : lastRun.sl.v199 i ix
    = part4 (rnd 13 (inj 24 42#32 466689012#32 (lastRun.sl.v154 i ix, lastRun.sl.v153 i ix))) >>> 9 := rfl

/-- The uniform numbers of the last point's first 128 columns. -/
theorem last_unit (i : grid0.Coords) (ix : S64x128.Idx) :
    k0_pay204 (F := F) (lastRun.sl.v199 i) lastRun.sl.v200 ix = unit (word (k0_pay1 i ix)) := by
  have e : k0_pay204 (F := F) (lastRun.sl.v199 i) lastRun.sl.v200 ix
    = FloatOps.maximumf (FloatOps.subf (FloatOps.ofBits .f32 (lastRun.sl.v199 i ix ||| 1065353216#32)) (Scalar.ofBits .f32 0x3F800000#32)) (Scalar.ofBits .f32 0x00800000#32) := rfl
  rw [e, last_part4, last_part3, last_part2, last_part1]; rfl

/-! ### Reading the block -/

/-- The block a window shows holds the logits of columns `65536 j` onwards, as far as the array goes. -/
def Shows (x : ℕ → ℕ → F .f32) (j : ℕ) (X : S64x65536.Idx → F .f32) : Prop :=
  ∀ y : S64x65536.Idx, 65536 * j + (y 1).val < 1000000 → X y = x (y 0).val (65536 * j + (y 1).val)

/-- Reading 128 columns of the block gives the logits of chunk `m`, as far as the array goes. -/
theorem read_cols (x : ℕ → ℕ → F .f32) (j : ℕ) (arg1 : Memref sig .tc .vmem S64x65536 .f32) (X : BufTy.Contents (Elt F) arg1.view.ty)
    (hX : Shows x j (arg1.view.read (Elt F) X)) {off : Fin 2 → ℕ} (inb : ∀ a, off a + S64x128.size a ≤ S64x65536.size a) (m : ℕ)
    (ho : off = ![0, 128 * m]) (ix : S64x128.Idx) (h : 128 * (512 * j + m) + (ix 1).val < 1000000) :
    arg1.view.readAt (Elt F) (Rect.unit (s := S64x65536) off S64x128.size inb).toLoadRect X ix
      = x (ix 0).val (128 * (512 * j + m) + (ix 1).val) := by
  subst ho
  rw [View.readAt_unit arg1.view X inb rfl inb]
  have e := hX (fun a => ⟨(![0, 128 * m] : Fin 2 → ℕ) a + (ix a).val, by have := inb a; have := (ix a).isLt; omega⟩)
  have e1 : 65536 * j + (128 * m + (ix 1).val) = 128 * (512 * j + m) + (ix 1).val := by omega
  simp only [Matrix.cons_val_zero, Matrix.cons_val_one, Matrix.cons_val_fin_one, zero_add, e1] at e
  exact (congrArg (arg1.view.read (Elt F) X) (funext fun a => Fin.ext (by
    show (![0, 128 * m] : Fin 2 → ℕ) a + 1 * (ix a).val = (![0, 128 * m] : Fin 2 → ℕ) a + (ix a).val; omega))).trans (e h)

/-! ### The loop over a full block -/

section

variable (c : Dev nD) (i : grid0.Coords) (arg1 : Memref sig .tc .vmem S64x65536 .f32) (harg1 : arg1.IsWhole) (arg2 : Memref sig .tc .vmem S64x1 .i32) (harg2 : arg2.IsWhole)
   (arg3 : Memref sig .tc .vmem S64x128 .f32) (harg3 : arg3.IsWhole) (arg4 : Memref sig .tc .vmem S64x128 .i32) (harg4 : arg4.IsWhole)
   (X : BufTy.Contents (Elt F) arg1.view.ty) (x : ℕ → ℕ → F .f32)

/-- Before trip `k` the loop carries the running pair before chunk `512 j + k`, and that chunk's uniform numbers. -/
theorem loop1 (h2 : k0_cond2 i = 1#1) (hj : (i 0).val < 15) (hX : Shows x (i 0).val (arg1.view.read (Elt F) X)) (v153 v155 v157 : IVec S64x128 32)
    (init : Vec F S64x128 .f32 × Vec F S64x128 .i32 × FVec F S64x128 .f32) (ix : S64x128.Idx)
    (h0 : (init.1 ix, init.2.1 ix) = run x (ix 0).val (ix 1).val (512 * (i 0).val))
    (hu : init.2.2 ix = unit (word (k0_pay1 i ix))) (k : ℕ) (hk : k ≤ k0_t1_loop.trips) :
    let S := st_k0_t1 Variants.none c none i arg1 harg1 arg2 harg2 arg3 harg3 arg4 harg4 (BitVec.ofNat 32 (i 0).val) (k0_pay1 i) h2 v153 v155 v157 X init k
    (S.1 ix, S.2.1 ix) = run x (ix 0).val (ix 1).val (512 * (i 0).val + k)
      ∧ S.2.2 ix = unit (word (k0_pay1 i ix + BitVec.ofNat 32 (128 * k))) := by
  induction k with
  | zero => exact ⟨h0, by rw [st_k0_t1_zero, hu]; simp⟩
  | succ k ih =>
    obtain ⟨h1, h2'⟩ := ih (by omega)
    have hk5 : k < 511 := lt_of_lt_of_le (by omega : k < k0_t1_loop.trips) k0_t1_abs.2.1
    have hl : (ix 1).val < 128 := (ix 1).isLt
    have hs := st_k0_t1_succ Variants.none c none i arg1 harg1 arg2 harg2 arg3 harg3 arg4 harg4 (BitVec.ofNat 32 (i 0).val) (k0_pay1 i) h2 v153 v155 v157 X init ⟨k, hk⟩
    obtain ⟨t1, t2, t3⟩ := trip1 c i arg1 harg1 arg2 harg2 arg3 harg3 arg4 harg4 (BitVec.ofNat 32 (i 0).val) (k0_pay1 i) h2 v153 v155 v157 X ⟨k, hk⟩
      (st_k0_t1 Variants.none c none i arg1 harg1 arg2 harg2 arg3 harg3 arg4 harg4 (BitVec.ofNat 32 (i 0).val) (k0_pay1 i) h2 v153 v155 v157 X init k) ix
    have hr := read_cols x (i 0).val arg1 X hX (k0_off1_inb i ⟨k, hk⟩ h2) k (k0_off1_eq ⟨k, hk⟩) ix (by omega)
    have hc : score ((st_k0_t1 Variants.none c none i arg1 harg1 arg2 harg2 arg3 harg3 arg4 harg4 (BitVec.ofNat 32 (i 0).val) (k0_pay1 i) h2 v153 v155 v157 X init k).2.2 ix)
        (row1 i h2 arg1 X ⟨k, hk⟩ ix) = cell x (ix 0).val (128 * (512 * (i 0).val + k) + (ix 1).val) := by
      rw [cell_of_lt _ _ _ (by omega), h2', pay1_apply, ctr_add]
      refine congrArg₂ score ?_ hr
      exact congrArg (fun q => unit (word (ctr (ix 0).val q))) (by omega)
    dsimp only at t1 t2 t3 ⊢
    rw [hc] at t1 t2
    rw [hs, t1, t2, t3, iv_sub, iv_eq, base_add]
    refine ⟨?_, rfl⟩
    rw [← add_assoc]; exact run_step x _ _ _ _ _ h1

/-- The full blocks' loop makes 511 trips. -/
theorem trips1 : k0_t1_loop.trips = 511 := by decide

/-- After the loop, one more chunk is scored and both running values are stored. -/
theorem close1 (hj : (i 0).val < 15) (hX : Shows x (i 0).val (arg1.view.read (Elt F) X)) (S : Vec F S64x128 .f32 × Vec F S64x128 .i32 × FVec F S64x128 .f32) (ix : S64x128.Idx) (n : ℕ) (hn : n = 511)
    (hS : (S.1 ix, S.2.1 ix) = run x (ix 0).val (ix 1).val (512 * (i 0).val + n)
      ∧ S.2.2 ix = unit (word (k0_pay1 i ix + BitVec.ofNat 32 (128 * n)))) :
    (k0_pay6 S.1 (k0_pay90 S.2.2) (arg1.view.readAt (Elt F) (Rect.unit (s := S64x65536) ![0, 65408] S64x128.size inb_S64x65536_S64x128_0_65408).toLoadRect X) ix,
      k0_pay7 i S.1 S.2.1 (k0_pay90 S.2.2) (arg1.view.readAt (Elt F) (Rect.unit (s := S64x65536) ![0, 65408] S64x128.size inb_S64x65536_S64x128_0_65408).toLoadRect X) ix)
      = run x (ix 0).val (ix 1).val (512 * ((i 0).val + 1)) := by
  subst hn
  obtain ⟨h1, h2⟩ := hS
  have hl : (ix 1).val < 128 := (ix 1).isLt
  have hr := read_cols x (i 0).val arg1 X hX inb_S64x65536_S64x128_0_65408 511 rfl ix (by omega)
  have hc : score (S.2.2 ix) (arg1.view.readAt (Elt F) (Rect.unit (s := S64x65536) ![0, 65408] S64x128.size inb_S64x65536_S64x128_0_65408).toLoadRect X ix)
      = cell x (ix 0).val (128 * (512 * (i 0).val + 511) + (ix 1).val) := by
    rw [cell_of_lt _ _ _ (by omega), h2, pay1_apply, ctr_add]
    refine congrArg₂ score ?_ hr
    exact congrArg (fun q => unit (word (ctr (ix 0).val q))) (by omega)
  have hn : BitVec.ofNat 32 (i 0).val * 65536#32 + 65408#32 = BitVec.ofNat 32 (128 * (512 * (i 0).val + 511)) := base_add (i 0).val 511
  unfold k0_pay6 k0_pay7
  rw [shapeCast_self, shapeCast_self, show 512 * ((i 0).val + 1) = 512 * (i 0).val + 511 + 1 by omega, run_succ, ← h1, ← hc, step, ← hn]
  rfl

/-- The value of a middle point's two scratch buffers. -/
theorem mid_value (h1 : ¬ k0_cond1 i = 1#1) (h2 : k0_cond2 i = 1#1) (h3 : ¬ k0_cond3 i = 1#1)
    (f2 : BufTy.Contents (Elt F) arg2.view.ty) (f3 : BufTy.Contents (Elt F) arg3.view.ty) (f4 : BufTy.Contents (Elt F) arg4.view.ty)
    (hX : Shows x (i 0).val (arg1.view.read (Elt F) X))
    (h0 : ∀ ix : S64x128.Idx, (arg3.view.read (Elt F) f3 ix, arg4.view.read (Elt F) f4 ix) = run x (ix 0).val (ix 1).val (512 * (i 0).val)) :
    let R := (midRun c i h1 h2 h3 arg1 harg1 arg2 harg2 arg3 harg3 arg4 harg4 X f2 f3 f4).1
    R.1 = f2 ∧ ∀ ix : S64x128.Idx, (arg3.view.read (Elt F) R.2.1 ix, arg4.view.read (Elt F) R.2.2 ix) = run x (ix 0).val (ix 1).val (512 * ((i 0).val + 1)) := by
  refine ⟨rfl, fun ix => ?_⟩
  have hj := coord_lt i h2
  have L := loop1 c i arg1 harg1 arg2 harg2 arg3 harg3 arg4 harg4 X x h2 hj hX (midRun.sl.v153 i) (midRun.sl.v155 i) (midRun.sl.v157 i)
    (arg3.view.readAt (Elt F) (Rect.unit (s := S64x128) ![0, 0] S64x128.size inb_S64x128_S64x128_0_0).toLoadRect f3,
     arg4.view.readAt (Elt F) (Rect.unit (s := S64x128) ![0, 0] S64x128.size inb_S64x128_S64x128_0_0).toLoadRect f4, k0_pay87 (midRun.sl.v153 i) (midRun.sl.v155 i) (midRun.sl.v157 i))
    ix (by rw [← h0 ix]; exact Prod.ext (congrFun (View.readAt_full arg3.view f3 _) ix) (congrFun (View.readAt_full arg4.view f4 _) ix)) (mid_unit i ix) k0_t1_loop.trips le_rfl
  refine Eq.trans ?_ (close1 i arg1 X x hj hX _ ix _ trips1 L)
  exact Prod.ext (congrFun (View.read_writes_full arg3.view f3 _ _ _) ix) (congrFun (View.read_writes_full arg4.view f4 _ _ _) ix)

/-- The running maxima are cleared to minus infinity. -/
theorem pay2_apply (ix : S64x128.Idx) : k0_pay2 (F := F) ix = Scalar.ofBits .f32 0xFF800000#32 := by
  unfold k0_pay2; rw [shapeCast_self]; rfl

/-- The running columns are cleared to zero. -/
theorem pay3_apply (ix : S64x128.Idx) : k0_pay3 ix = 0#32 := by
  unfold k0_pay3; rw [shapeCast_self]; rfl

/-- The first point reads back the cleared running maximum and column. -/
theorem first_read3 (arg3 : Memref sig .tc .vmem S64x128 .f32) : firstRun.sl.v188 (F := F) arg3 = k0_pay2 := by
  unfold firstRun.sl.v188 firstRun.sl.H3_1
  exact View.readCov_full (Val := Elt F) arg3.view inb_S64x128_S64x128_0_0 inb_S64x128_S64x128_0_0 (k0_pay2 (F := F)) []
/-- The same of the running columns. -/
theorem first_read4 (arg4 : Memref sig .tc .vmem S64x128 .i32) : firstRun.sl.v189 (F := F) arg4 = k0_pay3 := by
  unfold firstRun.sl.v189 firstRun.sl.H4_1
  exact View.readCov_full (Val := Elt F) arg4.view inb_S64x128_S64x128_0_0 inb_S64x128_S64x128_0_0 k0_pay3 []

/-- The value of the first point's output block and two scratch buffers. -/
theorem first_value (h1 : k0_cond1 i = 1#1) (h2 : k0_cond2 i = 1#1) (h3 : ¬ k0_cond3 i = 1#1)
    (f2 : BufTy.Contents (Elt F) arg2.view.ty) (f3 : BufTy.Contents (Elt F) arg3.view.ty) (f4 : BufTy.Contents (Elt F) arg4.view.ty)
    (hX : Shows x (i 0).val (arg1.view.read (Elt F) X)) :
    let R := (firstRun c i h1 h2 h3 arg1 harg1 arg2 harg2 arg3 harg3 arg4 harg4 X f2 f3 f4).1
    arg2.view.read (Elt F) R.1 = k0_pay4
      ∧ ∀ ix : S64x128.Idx, (arg3.view.read (Elt F) R.2.1 ix, arg4.view.read (Elt F) R.2.2 ix) = run x (ix 0).val (ix 1).val (512 * ((i 0).val + 1)) := by
  refine ⟨?_, fun ix => ?_⟩
  · show arg2.view.read (Elt F) (arg2.view.writes (Elt F) arg2.view.junk [⟨Rect.unit ![0, 0] S64x1.size inb_S64x1_S64x1_0_0, k0_pay4⟩]) = k0_pay4
    exact View.read_writes_full (Val := Elt F) arg2.view arg2.view.junk inb_S64x1_S64x1_0_0 k0_pay4 []
  have hj := coord_lt i h2
  have L := loop1 c i arg1 harg1 arg2 harg2 arg3 harg3 arg4 harg4 X x h2 hj hX (firstRun.sl.v153 i) (firstRun.sl.v155 i) (firstRun.sl.v157 i)
    (firstRun.sl.v188 arg3, firstRun.sl.v189 (F := F) arg4, k0_pay87 (firstRun.sl.v153 i) (firstRun.sl.v155 i) (firstRun.sl.v157 i))
    ix (by rw [coord_first i h1, first_read3, first_read4, Nat.mul_zero, run_zero]; exact Prod.ext (pay2_apply ix) (pay3_apply ix)) (first_unit i ix) k0_t1_loop.trips le_rfl
  refine Eq.trans ?_ (close1 i arg1 X x hj hX _ ix _ trips1 L)
  refine Prod.ext ?_ ?_
  · exact congrFun (View.read_writes_full (Val := Elt F) arg3.view arg3.view.junk inb_S64x128_S64x128_0_0
      (k0_pay6 (firstRun.sl.r c i h2 arg1 harg1 arg2 harg2 arg3 harg3 arg4 harg4 X) (firstRun.sl.r_2 c i h2 arg1 harg1 arg2 harg2 arg3 harg3 arg4 harg4 X)
        (arg1.view.readAt (Elt F) (Rect.unit (s := S64x65536) ![0, 65408] S64x128.size inb_S64x65536_S64x128_0_65408).toLoadRect X)) _) ix
  · exact congrFun (View.read_writes_full (Val := Elt F) arg4.view arg4.view.junk inb_S64x128_S64x128_0_0
      (k0_pay7 i (firstRun.sl.r c i h2 arg1 harg1 arg2 harg2 arg3 harg3 arg4 harg4 X) (firstRun.sl.r_1 c i h2 arg1 harg1 arg2 harg2 arg3 harg3 arg4 harg4 X)
        (firstRun.sl.r_2 c i h2 arg1 harg1 arg2 harg2 arg3 harg3 arg4 harg4 X)
        (arg1.view.readAt (Elt F) (Rect.unit (s := S64x65536) ![0, 65408] S64x128.size inb_S64x65536_S64x128_0_65408).toLoadRect X)) _) ix

end
end Cert.KernelIdeal.Body
end
-- ==== Proof.Last.lean ====
/-
  What the last grid point computes: its 133 chunks, of which the last one is cut at the end of the array, and the column it
  stores for every row.
-/
module

public import proofs.«01_k».proof.Proof.Block

@[expose] public section

noncomputable section

namespace Cert.KernelIdeal.Body

open Cert.KernelIdeal Cert.KernelIdeal.Gen Cert.Words
open Idealize.ShloMosaic

variable {F : FTy → Type} [FloatOps F]

variable (c : Dev nD) (i : grid0.Coords) (arg1 : Memref sig .tc .vmem S64x65536 .f32) (harg1 : arg1.IsWhole) (arg2 : Memref sig .tc .vmem S64x1 .i32) (harg2 : arg2.IsWhole)
   (arg3 : Memref sig .tc .vmem S64x128 .f32) (harg3 : arg3.IsWhole) (arg4 : Memref sig .tc .vmem S64x128 .i32) (harg4 : arg4.IsWhole)
   (X : BufTy.Contents (Elt F) arg1.view.ty) (x : ℕ → ℕ → F .f32)

/-! ### The last block -/

/-- Before trip `k` the last block's loop carries the running pair before chunk `n0 + k`, and that chunk's uniform numbers. -/
theorem loop2 (h3 : k0_cond3 i = 1#1) (hX : Shows x (i 0).val (arg1.view.read (Elt F) X)) (v2 : BitVec 32) (hv2 : v2 = 16960#32) (v4 : IVec S64x128 32) (hv4 : v4 = iota .tc S64x128 32 [1] iota_S64x128_d1_w32)
    (v39 : BitVec 32) (v199 v200 : IVec S64x128 32) (n0 : ℕ) (hn0 : n0 = 512 * (i 0).val)
    (init : Vec F S64x128 .f32 × Vec F S64x128 .i32 × FVec F S64x128 .f32) (ix : S64x128.Idx)
    (h0 : (init.1 ix, init.2.1 ix) = run x (ix 0).val (ix 1).val n0)
    (hu : init.2.2 ix = unit (word (k0_pay1 i ix))) (k : ℕ) (hk : k ≤ (k0_t2_loop i).trips) (hk' : k ≤ 132) :
    let S := st_k0_t2 Variants.none c none i arg1 harg1 arg2 harg2 arg3 harg3 arg4 harg4 (BitVec.ofNat 32 (i 0).val) v2 v4 (k0_pay1 i) h3 v39 v199 v200 X init k
    (S.1 ix, S.2.1 ix) = run x (ix 0).val (ix 1).val (n0 + k)
      ∧ S.2.2 ix = unit (word (k0_pay1 i ix + BitVec.ofNat 32 (128 * k))) := by
  have hj := coord_last i h3
  induction k with
  | zero => exact ⟨by rw [Nat.add_zero, ← h0, st_k0_t2_zero], by rw [st_k0_t2_zero, hu]; simp⟩
  | succ k ih =>
    have hk1 : k < (k0_t2_loop i).trips := Nat.lt_of_succ_le hk
    obtain ⟨h1, h2'⟩ := ih (Nat.le_of_lt hk1) (by omega)
    have hl : (ix 1).val < 128 := (ix 1).isLt
    have hs := st_k0_t2_succ Variants.none c none i arg1 harg1 arg2 harg2 arg3 harg3 arg4 harg4 (BitVec.ofNat 32 (i 0).val) v2 v4 (k0_pay1 i) h3 v39 v199 v200 X init ⟨k, hk1⟩
    have hval : (⟨k, hk1⟩ : Fin (k0_t2_loop i).trips).val = k := rfl
    rw [hval] at hs
    have hv : v4 ix = BitVec.ofNat 32 (ix 1).val := by rw [hv4, lane_apply]
    have hr := read_cols x (i 0).val arg1 X hX (k0_off2_inb i ⟨k, hk1⟩ h3) k (k0_off2_eq i ⟨k, hk1⟩) ix (by omega)
    have hc : masked (v4 ix) (v2 - BitVec.ofNat 32 (128 * k)) (score ((st_k0_t2 Variants.none c none i arg1 harg1 arg2 harg2 arg3 harg3 arg4 harg4 (BitVec.ofNat 32 (i 0).val) v2 v4 (k0_pay1 i) h3 v39 v199 v200 X init k).2.2 ix)
        (row2 i h3 arg1 X ⟨k, hk1⟩ ix)) = cell x (ix 0).val (128 * (n0 + k) + (ix 1).val) := by
      rw [hv, masked_apply v2 hv2 _ _ hl (by omega), if_pos (by omega), cell_of_lt _ _ _ (by omega), h2', pay1_apply, ctr_add]
      exact congrArg₂ score (congrArg (fun q => unit (word (ctr (ix 0).val q))) (by omega)) (hr.trans (by rw [hn0]))
    obtain ⟨t1, t2, t3⟩ := trip2 c i arg1 harg1 arg2 harg2 arg3 harg3 arg4 harg4 (BitVec.ofNat 32 (i 0).val) v2 v4 (k0_pay1 i) h3 v39 v199 v200 X ⟨k, hk1⟩
      (st_k0_t2 Variants.none c none i arg1 harg1 arg2 harg2 arg3 harg3 arg4 harg4 (BitVec.ofNat 32 (i 0).val) v2 v4 (k0_pay1 i) h3 v39 v199 v200 X init k) ix
      _ _ (iv_sub k) (iv_eq k) _ hc
    rw [base_add, ← hn0] at t2
    refine ⟨?_, (congrArg (fun R => R.2.2 ix) hs).trans t3⟩
    refine Eq.trans ?_ (run_step x _ _ _ _ _ h1)
    rw [Prod.mk.injEq]
    exact ⟨(congrArg (fun R => R.1 ix) hs).trans t1, (congrArg (fun R => R.2.1 ix) hs).trans t2⟩

/-- The last point's numbers: 16960 columns are inside the array, in 133 chunks, of which the loop takes all but the last one. -/
theorem last_words : ∀ i : grid0.Coords, (i 0).val = 15 →
    lastRun.sl.v2 i = 16960#32 ∧ lastRun.sl.v39 i = 133#32 ∧ (k0_t2_loop i).trips = 132 ∧ (k0_t3_loop i).trips = 0 := by decide +kernel

/-- After the last block's loop one more chunk, of which only the columns inside the array count, is scored and both running values are stored. -/
theorem close2 (h3 : k0_cond3 i = 1#1) (hX : Shows x (i 0).val (arg1.view.read (Elt F) X)) (v2 v39 : BitVec 32) (hv2 : v2 = 16960#32) (hv39 : v39 = 133#32)
    (v4 : IVec S64x128 32) (hv4 : v4 = iota .tc S64x128 32 [1] iota_S64x128_d1_w32)
    (S : Vec F S64x128 .f32 × Vec F S64x128 .i32 × FVec F S64x128 .f32) (ix : S64x128.Idx) (n0 n : ℕ) (hn0 : n0 = 512 * (i 0).val) (hn : n = 132)
    (hS : (S.1 ix, S.2.1 ix) = run x (ix 0).val (ix 1).val (n0 + n)
      ∧ S.2.2 ix = unit (word (k0_pay1 i ix + BitVec.ofNat 32 (128 * n)))) :
    (k0_pay213 v2 v4 v39 S.1 S.2.2 (arg1.view.readAt (Elt F) (Rect.unit (s := S64x65536) (k0_off4 i) S64x128.size (k0_off4_inb i h3)).toLoadRect X) ix,
      k0_pay212 (BitVec.ofNat 32 (i 0).val) v2 v4 v39 S.1 S.2.1 S.2.2 (arg1.view.readAt (Elt F) (Rect.unit (s := S64x65536) (k0_off4 i) S64x128.size (k0_off4_inb i h3)).toLoadRect X) ix)
      = run x (ix 0).val (ix 1).val (n0 + n + 1) := by
  obtain ⟨h1, h2⟩ := hS
  have hj := coord_last i h3
  have hl : (ix 1).val < 128 := (ix 1).isLt
  have ho : k0_off4 i = ![0, 128 * n] := by rw [k0_off4_eq, hj, hn]; rfl
  have hv : v4 ix = BitVec.ofNat 32 (ix 1).val := by rw [hv4, lane_apply]
  have hb : (v39 - 1#32) * 128#32 = BitVec.ofNat 32 (128 * n) := by rw [hv39, hn]; rfl
  have hc : k0_pay211 v2 v4 v39 S.2.2 (arg1.view.readAt (Elt F) (Rect.unit (s := S64x65536) (k0_off4 i) S64x128.size (k0_off4_inb i h3)).toLoadRect X) ix
      = cell x (ix 0).val (128 * (n0 + n) + (ix 1).val) := by
    show masked (v4 ix) (v2 - (v39 - 1#32) * 128#32) (score (S.2.2 ix) (arg1.view.readAt (Elt F) (Rect.unit (s := S64x65536) (k0_off4 i) S64x128.size (k0_off4_inb i h3)).toLoadRect X ix)) = _
    rw [hb, hv, masked_apply v2 hv2 _ _ hl (by omega)]
    by_cases hq : 128 * (7680 + n) + (ix 1).val < 1000000
    · have hr := read_cols x (i 0).val arg1 X hX (k0_off4_inb i h3) n ho ix (by omega)
      rw [if_pos hq, cell_of_lt _ _ _ (by omega), h2, pay1_apply, ctr_add]
      exact congrArg₂ score (congrArg (fun q => unit (word (ctr (ix 0).val q))) (by omega)) (hr.trans (by rw [hn0]))
    · rw [if_neg hq, cell, if_neg (by omega)]
  refine Eq.trans ?_ (run_step x _ _ _ _ _ h1)
  have hs : BitVec.ofNat 32 (i 0).val * 65536#32 + (v39 - 1#32) * 128#32 = BitVec.ofNat 32 (128 * (n0 + n)) := by rw [hb, hn0, base_add]
  unfold k0_pay213 k0_pay212
  rw [shapeCast_self, ← hc, ← hs]; rfl

/-- The last point's two scratch buffers hold the running pairs over the whole array, and its output block is read off them. -/
theorem last_value (h1 : ¬ k0_cond1 i = 1#1) (h2 : ¬ k0_cond2 i = 1#1) (h3 : k0_cond3 i = 1#1)
    (f2 : BufTy.Contents (Elt F) arg2.view.ty) (f3 : BufTy.Contents (Elt F) arg3.view.ty) (f4 : BufTy.Contents (Elt F) arg4.view.ty)
    (hX : Shows x (i 0).val (arg1.view.read (Elt F) X))
    (h0 : ∀ ix : S64x128.Idx, (arg3.view.read (Elt F) f3 ix, arg4.view.read (Elt F) f4 ix) = run x (ix 0).val (ix 1).val (512 * (i 0).val)) :
    let R := (lastRun c i h1 h2 h3 arg1 harg1 arg2 harg2 arg3 harg3 arg4 harg4 X f2 f3 f4).1
    arg2.view.read (Elt F) R.1 = k0_pay9 (arg4.view.read (Elt F) R.2.2) (arg3.view.read (Elt F) R.2.1)
      ∧ ∀ ix : S64x128.Idx, (arg3.view.read (Elt F) R.2.1 ix, arg4.view.read (Elt F) R.2.2 ix) = run x (ix 0).val (ix 1).val 7813 := by
  have hj := coord_last i h3
  obtain ⟨hv2, hv39, ht2, ht3⟩ := last_words i hj
  refine ⟨?_, fun ix => ?_⟩
  · show arg2.view.read (Elt F) (arg2.view.writes (Elt F) f2 [⟨Rect.unit ![0, 0] S64x1.size inb_S64x1_S64x1_0_0,
        k0_pay9 (lastRun.sl.v244 c i h3 arg1 harg1 arg2 harg2 arg3 harg3 arg4 harg4 X f3 f4) (lastRun.sl.v246 c i h3 arg1 harg1 arg2 harg2 arg3 harg3 arg4 harg4 X f3 f4)⟩])
      = k0_pay9 (arg4.view.read (Elt F) (arg4.view.writes (Elt F) f4 (lastRun.sl.H4_1 c i h3 arg1 harg1 arg2 harg2 arg3 harg3 arg4 harg4 X f3 f4)))
          (arg3.view.read (Elt F) (arg3.view.writes (Elt F) f3 (lastRun.sl.H3_1 c i h3 arg1 harg1 arg2 harg2 arg3 harg3 arg4 harg4 X f3 f4)))
    rw [View.read_writes_full (Val := Elt F) arg2.view f2 inb_S64x1_S64x1_0_0]
    unfold lastRun.sl.v244 lastRun.sl.v246 lastRun.sl.H4_1 lastRun.sl.H3_1
    rw [View.readCov_full (Val := Elt F) arg4.view inb_S64x128_S64x128_0_0 inb_S64x128_S64x128_0_0, View.readCov_full (Val := Elt F) arg3.view inb_S64x128_S64x128_0_0 inb_S64x128_S64x128_0_0,
      View.read_writes_full (Val := Elt F) arg4.view f4 inb_S64x128_S64x128_0_0, View.read_writes_full (Val := Elt F) arg3.view f3 inb_S64x128_S64x128_0_0]
  · have L := loop2 c i arg1 harg1 arg2 harg2 arg3 harg3 arg4 harg4 X x h3 hX (lastRun.sl.v2 i) hv2 lastRun.sl.v4 rfl (lastRun.sl.v39 i) (lastRun.sl.v199 i) lastRun.sl.v200
      _ rfl
      (arg3.view.readAt (Elt F) (Rect.unit (s := S64x128) ![0, 0] S64x128.size inb_S64x128_S64x128_0_0).toLoadRect f3,
       arg4.view.readAt (Elt F) (Rect.unit (s := S64x128) ![0, 0] S64x128.size inb_S64x128_S64x128_0_0).toLoadRect f4, k0_pay204 (lastRun.sl.v199 i) lastRun.sl.v200)
      ix (by rw [← h0 ix]; exact Prod.ext (congrFun (View.readAt_full arg3.view f3 _) ix) (congrFun (View.readAt_full arg4.view f4 _) ix)) (last_unit i ix) 132 ht2.ge le_rfl
    obtain ⟨S, hS⟩ : ∃ S, st_k0_t2 Variants.none c none i arg1 harg1 arg2 harg2 arg3 harg3 arg4 harg4 (BitVec.ofNat 32 (i 0).val) (lastRun.sl.v2 i) lastRun.sl.v4
        (k0_pay1 i) h3 (lastRun.sl.v39 i) (lastRun.sl.v199 i) lastRun.sl.v200 X
        (arg3.view.readAt (Elt F) (Rect.unit (s := S64x128) ![0, 0] S64x128.size inb_S64x128_S64x128_0_0).toLoadRect f3,
         arg4.view.readAt (Elt F) (Rect.unit (s := S64x128) ![0, 0] S64x128.size inb_S64x128_S64x128_0_0).toLoadRect f4, k0_pay204 (lastRun.sl.v199 i) lastRun.sl.v200) 132 = S := ⟨_, rfl⟩
    dsimp only at L
    rw [hS] at L
    have C := close2 i arg1 X x h3 hX (lastRun.sl.v2 i) (lastRun.sl.v39 i) hv2 hv39 lastRun.sl.v4 rfl _ ix _ _ rfl rfl L
    rw [show 512 * (i 0).val + 132 + 1 = 7813 by omega] at C
    refine Eq.trans ?_ C
    show (arg3.view.read (Elt F) (arg3.view.writes (Elt F) f3 (lastRun.sl.H3_1 c i h3 arg1 harg1 arg2 harg2 arg3 harg3 arg4 harg4 X f3 f4)) ix,
      arg4.view.read (Elt F) (arg4.view.writes (Elt F) f4 (lastRun.sl.H4_1 c i h3 arg1 harg1 arg2 harg2 arg3 harg3 arg4 harg4 X f3 f4)) ix) = _
    unfold lastRun.sl.H3_1 lastRun.sl.H4_1
    rw [View.read_writes_full (Val := Elt F) arg4.view f4 inb_S64x128_S64x128_0_0, View.read_writes_full (Val := Elt F) arg3.view f3 inb_S64x128_S64x128_0_0]
    unfold k0_pay8 lastRun.sl.r
    rw [shapeCast_self]
    have hz : Scf.trips (k0_t3_loop i).lb (k0_t3_loop i).ub (k0_t3_loop i).st = 0 := ht3
    have hz2 : Scf.trips (k0_t2_loop i).lb (k0_t2_loop i).ub (k0_t2_loop i).st = 132 := ht2
    rewrite [hz, st_k0_t3_zero, hz2, hS]
    exact Eq.refl _

end Cert.KernelIdeal.Body
end
-- ==== Proof.Logits.lean ====
/-
  The logits as the kernel's grid points find them: each point's staging buffer shows, on its columns inside the array, the
  logits of those columns.
-/
module

public import proofs.«01_k».proof.Proof.Block

@[expose] public section

noncomputable section

namespace Cert.KernelIdeal.Body

open Cert.KernelIdeal Cert.KernelIdeal.Gen Cert.Words
open Idealize.ShloMosaic Idealize.ShloMosaic.TcCoe

variable {F : FTy → Type} [FloatOps F]

variable (m : (ℓ : Loc nD τ sig) → Buf (Elt F) ℓ)

/-- Row `r`, column `q` of the logits. -/
abbrev cellAt (r q : ℕ) (h : r < 64 ∧ q < 1000000) : S64x1000000.Idx :=
  fun a => ⟨(![r, q] : Fin 2 → ℕ) a, by fin_cases a; exacts [h.1, h.2]⟩

/-- The logits by row and column number (past the array's end, zero). -/
def logits (c : Dev nD) (r q : ℕ) : F .f32 :=
  if h : r < 64 ∧ q < 1000000 then m ((c : Thread nD τ).loc main_arg0) (cellAt r q h) else Scalar.ofBits .f32 0#32

/-- The logits' block at point `t`: its part inside the array. -/
def xblk (c : Dev nD) (t : Fin cfg0.N) : (win0_0.xblock (grid0.coords t)).Idx → Elt F .f32 :=
  (win0_0.blk t).view.read (Elt F) (m ((c : Thread nD τ).loc main_arg0))

/-- Point `t`'s coordinate is `t`. -/
theorem coord_val (t : Fin cfg0.N) : (grid0.coords t 0).val = t.val := by
  rcases fin_N0 t with rfl | rfl | rfl | rfl | rfl | rfl | rfl | rfl | rfl | rfl | rfl | rfl | rfl | rfl | rfl | rfl <;> decide

/-- The block index of a point. -/
theorem transform_eq (i : grid0.Coords) : cc0_transform_0 i = ![0, (i 0).val] := by
  have h : (i 0).val < 16 := (i 0).isLt
  show ![0, (BitVec.ofNat 32 (i 0).val).toNat] = _
  rw [show (BitVec.ofNat 32 (i 0).val).toNat = (i 0).val by rw [BitVec.toNat_ofNat]; omega]

/-- How much of a block lies inside the array. -/
theorem lt_extent (j k d n : ℕ) (hn : n < k) (h : k * j + n < d) : n < (Pipeline.Clip.of j k d).extent k := by
  unfold Pipeline.Clip.of
  split
  · exact hn
  · show n < d - j * k
    rw [Nat.mul_comm j k]; omega

/-- The staging buffer shows the logits of the block's columns that are inside the array, whatever it holds past them. -/
theorem shows_fill (c : Dev nD) (t : Fin cfg0.N) (d : S64x65536.Idx → F .f32) :
    Shows (logits m c) (grid0.coords t 0).val (win0_0.fill (grid0.coords t) d (xblk m c t)) := by
  intro y hy
  have h0 : (y 0).val < 64 := (y 0).isLt
  have hm : win0_0.moved (grid0.coords t) y = true := by
    rw [Pipeline.Window.moved_iff]
    intro a
    show (y a).val < (Pipeline.Clip.of (cc0_transform_0 (grid0.coords t) a) (S64x65536.size a) (S64x1000000.size a)).extent (S64x65536.size a)
    rw [transform_eq]
    fin_cases a
    · exact lt_extent 0 64 64 (y 0).val h0 (by omega)
    · exact lt_extent _ 65536 1000000 _ (y 1).isLt hy
  unfold Pipeline.Window.fill logits
  rw [dif_pos hm, dif_pos ⟨h0, hy⟩]
  unfold xblk
  rw [View.read_apply]
  refine congrArg (m ((c : Thread nD τ).loc main_arg0)) (funext fun a => Fin.ext ?_)
  show cc0_transform_0 (grid0.coords t) a * S64x65536.size a + 1 * (y a).val = (![(y 0).val, 65536 * (grid0.coords t 0).val + (y 1).val] : Fin 2 → ℕ) a
  rw [transform_eq]
  fin_cases a
  · show 0 * 64 + 1 * (y 0).val = (y 0).val
    omega
  · show (grid0.coords t 0).val * 65536 + 1 * (y 1).val = 65536 * (grid0.coords t 0).val + (y 1).val
    omega

end Cert.KernelIdeal.Body

end
-- ==== Proof.Point.lean ====
/-
  The kernel's obligation at each grid point, with the values its buffers hold: before point `t` the scratch buffers hold the
  running pairs of the chunks before it; the last point leaves the answer in the output block.
-/
module

public import proofs.«01_k».proof.Proof.Last
public import proofs.«01_k».proof.Proof.Logits

@[expose] public section

noncomputable section

namespace Cert.KernelIdeal.Body

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The running maxima of all rows and lanes after `n` chunks. -/
def best (c : Dev nD) (n : ℕ) : Vec F S64x128 .f32 := fun ix => (run (logits m c) (ix 0).val (ix 1).val n).1
/-- The first column of the chunk in which each of them was found. -/
def where_ (c : Dev nD) (n : ℕ) : Vec F S64x128 .i32 := fun ix => (run (logits m c) (ix 0).val (ix 1).val n).2

/-- The chunks scanned before point `t`. -/
abbrev chunks (t : ℕ) : ℕ := min (512 * t) 7813

/-- What the kernel answers: the column found for each row. -/
def answer (c : Dev nD) : IVec S64x1 32 := k0_pay9 (where_ m c 7813) (best m c 7813)

/-- The scratch buffers between points. -/
def carried (c : Dev nD) (t : ℕ) : sProp 𝕄 :=
  iprop(((((c : Thread nD τ).loc cc0_scratch0) ↦{fullShare} best m c (chunks t)) ∗ (((c : Thread nD τ).loc cc0_scratch1) ↦{fullShare} where_ m c (chunks t))) ∗ ∃ r, prngReg c r)

/-- The proof data: the arrays as launched, the input block as fetched, the output block cleared by the first point and holding
    the answer after the last one. -/
def dats (_ : Fin 1) (c : Dev nD) : Dat τ (Elt F) Unit ℕ (UR sig nD τ) ℕ cfg0 c where
  A w := (s₀ m ρ).mem ((cfg0.win w).arr.view.loc (c : Thread nD τ))
  after w t := match w with
    | ⟨0, _⟩ => win0_0.fill (grid0.coords t) (fun _ => Scalar.ofBits .f32 0#32) (xblk m c t)
    | ⟨1, _⟩ => if t.val = 0 then k0_pay4 else answer m c
  Φ t := if t.val = 0 then Pipeline.ΦA spec0 c else carried m c t.val
  q _ := fullShare
  owed _ := 0

/-- What the input's buffer holds before a point: the fetched block over what was there. -/
theorem before_0 (c : Dev nD) (t : Fin cfg0.N) (d) :
    (dats m ρ 0 c).before (0 : Fin 2) t d = win0_0.fill (grid0.coords t) d (xblk m c t) := by
  unfold Dat.before; rw [if_pos (fetch0_0 t)]; rfl

/-- The table of bodies at a point is the kernel's body there. -/
theorem defs_row (t : Fin cfg0.N) : defs₀ (F := F) .tc cfg0.body (cfg0.bodyArgs t (cfg0.slots t)) = bodyAt0 t := by
  unfold defs₀; rw [Defs.onTc_tc]

/-- The first scratch buffer is taken whole. -/
theorem set_scratch0 : (Memref.whole cc0_scratch0 : Memref sig .tc _ _ _).view.set = Finset.univ := (Memref.isWhole_whole cc0_scratch0).set_eq_univ
/-- The second scratch buffer is taken whole. -/
theorem set_scratch1 : (Memref.whole cc0_scratch1 : Memref sig .tc _ _ _).view.set = Finset.univ := (Memref.isWhole_whole cc0_scratch1).set_eq_univ

/-- The paths by point: the first, the fourteen in the middle, the last. -/
theorem conds (i : grid0.Coords) :
    ((i 0).val = 0 → k0_cond1 i = 1#1 ∧ k0_cond2 i = 1#1 ∧ ¬ k0_cond3 i = 1#1)
      ∧ ((i 0).val ≠ 0 → (i 0).val ≠ 15 → ¬ k0_cond1 i = 1#1 ∧ k0_cond2 i = 1#1 ∧ ¬ k0_cond3 i = 1#1)
      ∧ ((i 0).val = 15 → ¬ k0_cond1 i = 1#1 ∧ ¬ k0_cond2 i = 1#1 ∧ k0_cond3 i = 1#1) := by
  unfold k0_cond1 k0_cond2 k0_cond3
  generalize hj : (i 0).val = j
  have hlt : j < 16 := hj ▸ (i 0).isLt
  interval_cases j <;> decide

/-- After a point the scratch buffers hold the running pairs of the chunks up to it. -/
theorem scratch_eq (c : Dev nD) (n : ℕ) (g3 : Vec F S64x128 .f32) (g4 : Vec F S64x128 .i32)
    (h : ∀ ix : S64x128.Idx, (g3 ix, g4 ix) = run (logits m c) (ix 0).val (ix 1).val n) : g3 = best m c n ∧ g4 = where_ m c n :=
  ⟨funext fun ix => congrArg Prod.fst (h ix), funext fun ix => congrArg Prod.snd (h ix)⟩

/-- The input block handed back is the one fetched. -/
theorem handed (c : Dev nD) (t : Fin cfg0.N) (d : S64x65536.Idx → F .f32) :
    win0_0.fill (grid0.coords t) d (win0_0.cut (grid0.coords t) (win0_0.fill (grid0.coords t) (fun _ => Scalar.ofBits .f32 0#32) (xblk m c t))) = win0_0.fill (grid0.coords t) d (xblk m c t) :=
  congrArg (win0_0.fill (grid0.coords t) d) (win0_0.cut_fill (grid0.coords t) _ (xblk m c t))

/-- What a run of the body leaves: a buffer's contents `R` for each of the three it writes. -/
abbrev Leaves (c : Dev nD) (i : grid0.Coords)
   (arg1 : Memref sig .tc .vmem S64x65536 .f32) (harg1 : arg1.IsWhole) (arg2 : Memref sig .tc .vmem S64x1 .i32) (harg2 : arg2.IsWhole)
   (X : BufTy.Contents (Elt F) arg1.view.ty) (f2 : BufTy.Contents (Elt F) arg2.view.ty) (f3 : Vec F S64x128 .f32) (f4 : Vec F S64x128 .i32)
   (R : BufTy.Contents (Elt F) arg2.view.ty × Vec F S64x128 .f32 × Vec F S64x128 .i32) : Prop := ∀ (E : Set ℕ) (K : PUnit → sProp 𝕄),
   iprop(((arg1.view.loc (c : Thread nD τ) ↦[arg1.view.set]{fullShare} X) ∗ (arg2.view.loc (c : Thread nD τ) ↦[arg2.view.set]{fullShare} f2)
        ∗ ((Memref.whole cc0_scratch0 : Memref sig .tc _ _ _).view.loc (c : Thread nD τ) ↦[(Memref.whole cc0_scratch0 : Memref sig .tc _ _ _).view.set]{fullShare} f3)
        ∗ ((Memref.whole cc0_scratch1 : Memref sig .tc _ _ _).view.loc (c : Thread nD τ) ↦[(Memref.whole cc0_scratch1 : Memref sig .tc _ _ _).view.set]{fullShare} f4))
     ∗ (iprop((arg1.view.loc (c : Thread nD τ) ↦[arg1.view.set]{fullShare} X) ∗ (arg2.view.loc (c : Thread nD τ) ↦[arg2.view.set]{fullShare} R.1)
        ∗ ((Memref.whole cc0_scratch0 : Memref sig .tc _ _ _).view.loc (c : Thread nD τ) ↦[(Memref.whole cc0_scratch0 : Memref sig .tc _ _ _).view.set]{fullShare} R.2.1)
        ∗ ((Memref.whole cc0_scratch1 : Memref sig .tc _ _ _).view.loc (c : Thread nD τ) ↦[(Memref.whole cc0_scratch1 : Memref sig .tc _ _ _).view.set]{fullShare} R.2.2)) -∗ K ⟨⟩)) ⊢
     wp frame (wpE (defs₀ (F := F)) Variants.none c none) E
          (cc0__sample_block_kernel i arg1 harg1 arg2 harg2 (Memref.whole cc0_scratch0) (Memref.isWhole_whole _) (Memref.whole cc0_scratch1) (Memref.isWhole_whole _)) K

section
variable (c : Dev nD) (i : grid0.Coords)
   (arg1 : Memref sig .tc .vmem S64x65536 .f32) (harg1 : arg1.IsWhole) (arg2 : Memref sig .tc .vmem S64x1 .i32) (harg2 : arg2.IsWhole)
   (X : BufTy.Contents (Elt F) arg1.view.ty) (f2 : BufTy.Contents (Elt F) arg2.view.ty) (hX : Shows (logits m c) (i 0).val (arg1.view.read (Elt F) X))

include hX

/-- The first point's run. -/
theorem leaves_first (h0 : (i 0).val = 0) (f3 : Vec F S64x128 .f32) (f4 : Vec F S64x128 .i32) :
    ∃ R, Leaves c i arg1 harg1 arg2 harg2 X f2 f3 f4 R ∧ arg2.view.read (Elt F) R.1 = k0_pay4
      ∧ R.2.1 = best m c (chunks ((i 0).val + 1)) ∧ R.2.2 = where_ m c (chunks ((i 0).val + 1)) := by
  obtain ⟨h1, h2, h3⟩ := (conds i).1 h0
  have hv := first_value c i arg1 harg1 arg2 harg2 (Memref.whole cc0_scratch0) (Memref.isWhole_whole _) (Memref.whole cc0_scratch1) (Memref.isWhole_whole _) X (logits m c) h1 h2 h3 f2 f3 f4 hX
  generalize firstRun c i h1 h2 h3 arg1 harg1 arg2 harg2 (Memref.whole cc0_scratch0) (Memref.isWhole_whole _) (Memref.whole cc0_scratch1) (Memref.isWhole_whole _) X f2 f3 f4 = R at hv
  obtain ⟨R, hR⟩ := R
  rw [show chunks ((i 0).val + 1) = 512 * ((i 0).val + 1) by rw [h0]; rfl]
  exact ⟨R, hR, hv.1, scratch_eq m c _ _ _ hv.2⟩

/-- A middle point's run. -/
theorem leaves_mid (h0 : (i 0).val ≠ 0) (h15 : (i 0).val ≠ 15) :
    ∃ R, Leaves c i arg1 harg1 arg2 harg2 X f2 (best m c (chunks (i 0).val)) (where_ m c (chunks (i 0).val)) R ∧ R.1 = f2
      ∧ R.2.1 = best m c (chunks ((i 0).val + 1)) ∧ R.2.2 = where_ m c (chunks ((i 0).val + 1)) := by
  obtain ⟨h1, h2, h3⟩ := (conds i).2.1 h0 h15
  have hlt : (i 0).val < 16 := (i 0).isLt
  rw [show chunks (i 0).val = 512 * (i 0).val from min_eq_left (by omega), show chunks ((i 0).val + 1) = 512 * ((i 0).val + 1) from min_eq_left (by omega)]
  have hv := mid_value c i arg1 harg1 arg2 harg2 (Memref.whole cc0_scratch0) (Memref.isWhole_whole _) (Memref.whole cc0_scratch1) (Memref.isWhole_whole _) X (logits m c) h1 h2 h3 f2
    (best m c (512 * (i 0).val)) (where_ m c (512 * (i 0).val)) hX fun _ => rfl
  generalize midRun c i h1 h2 h3 arg1 harg1 arg2 harg2 (Memref.whole cc0_scratch0) (Memref.isWhole_whole _) (Memref.whole cc0_scratch1) (Memref.isWhole_whole _) X f2
    (best m c (512 * (i 0).val)) (where_ m c (512 * (i 0).val)) = R at hv
  obtain ⟨R, hR⟩ := R
  exact ⟨R, hR, hv.1, scratch_eq m c _ _ _ hv.2⟩

/-- The last point's run. -/
theorem leaves_last (h15 : (i 0).val = 15) :
    ∃ R, Leaves c i arg1 harg1 arg2 harg2 X f2 (best m c (chunks (i 0).val)) (where_ m c (chunks (i 0).val)) R ∧ arg2.view.read (Elt F) R.1 = answer m c
      ∧ R.2.1 = best m c (chunks ((i 0).val + 1)) ∧ R.2.2 = where_ m c (chunks ((i 0).val + 1)) := by
  obtain ⟨h1, h2, h3⟩ := (conds i).2.2 h15
  rw [show chunks (i 0).val = 512 * (i 0).val from min_eq_left (by omega), show chunks ((i 0).val + 1) = 7813 from min_eq_right (by omega)]
  have hv := last_value c i arg1 harg1 arg2 harg2 (Memref.whole cc0_scratch0) (Memref.isWhole_whole _) (Memref.whole cc0_scratch1) (Memref.isWhole_whole _) X (logits m c) h1 h2 h3 f2
    (best m c (512 * (i 0).val)) (where_ m c (512 * (i 0).val)) hX fun _ => rfl
  generalize lastRun c i h1 h2 h3 arg1 harg1 arg2 harg2 (Memref.whole cc0_scratch0) (Memref.isWhole_whole _) (Memref.whole cc0_scratch1) (Memref.isWhole_whole _) X f2
    (best m c (512 * (i 0).val)) (where_ m c (512 * (i 0).val)) = R at hv
  obtain ⟨R, hR⟩ := R
  obtain ⟨e3, e4⟩ := scratch_eq m c 7813 R.2.1 R.2.2 hv.2
  refine ⟨R, hR, hv.1.trans ?_, e3, e4⟩
  show k0_pay9 R.2.2 R.2.1 = _
  rw [e3, e4]; rfl

omit hX in
/-- A run of the body, from its buffers to what the pipeline takes back. -/
theorem point_run (f3 : Vec F S64x128 .f32) (f4 : Vec F S64x128 .i32) (R) (hR : Leaves c i arg1 harg1 arg2 harg2 X f2 f3 f4 R)
    (h3 : R.2.1 = best m c (chunks ((i 0).val + 1))) (h4 : R.2.2 = where_ m c (chunks ((i 0).val + 1))) (K : PUnit → sProp 𝕄) :
    iprop((((((c : Thread nD τ).loc cc0_scratch0) ↦{fullShare} f3) ∗ (((c : Thread nD τ).loc cc0_scratch1) ↦{fullShare} f4)) ∗ ∃ r, prngReg c r)
        ∗ (arg1.view.loc (c : Thread nD τ) ↦[arg1.view.set]{fullShare} X) ∗ (arg2.view.loc (c : Thread nD τ) ↦[arg2.view.set]{fullShare} f2)
        ∗ (iprop(carried m c ((i 0).val + 1) ∗ (arg1.view.loc (c : Thread nD τ) ↦[arg1.view.set]{fullShare} X) ∗ (arg2.view.loc (c : Thread nD τ) ↦[arg2.view.set]{fullShare} R.1)) -∗ K ⟨⟩)) ⊢
    wp frame (wpE (defs₀ (F := F)) Variants.none c none) Set.univ
      (cc0__sample_block_kernel i arg1 harg1 arg2 harg2 (Memref.whole cc0_scratch0) (Memref.isWhole_whole _) (Memref.whole cc0_scratch1) (Memref.isWhole_whole _)) K := by
  unfold carried
  iintro ⟨⟨⟨H3, H4⟩, HP⟩, H1, H2, Hk⟩
  iapply (hR Set.univ _)
  isplitl [H1 H2 H3 H4]
  · isplitl [H1]; · iexact H1
    isplitl [H2]; · iexact H2
    isplitl [H3]
    · rw [set_scratch0]; iexact H3
    · rw [set_scratch1]; iexact H4
  rw [set_scratch0, set_scratch1, h3, h4]
  iintro ⟨H1, H2, H3, H4⟩
  iapply Hk
  isplitl [H3 H4 HP]
  · isplitl [H3 H4]
    · isplitl [H3]; · iexact H3
      iexact H4
    · iexact HP
  isplitl [H1]; · iexact H1
  iexact H2

end

/-- What is held before the first point. -/
theorem held_first (c : Dev nD) (t : Fin (cfg0.N + 1)) (h : t.val = 0) : (dats m ρ 0 c).Φ t = Pipeline.ΦA spec0 c := if_pos h
/-- What is held between points. -/
theorem held_next (c : Dev nD) (t : Fin (cfg0.N + 1)) (h : t.val ≠ 0) : (dats m ρ 0 c).Φ t = carried m c t.val := if_neg h

/-- The output block after the first point. -/
theorem after_first (c : Dev nD) (t : Fin cfg0.N) (h : t.val = 0) : (dats m ρ 0 c).after 1 t = k0_pay4 := if_pos h
/-- The output block after the last point. -/
theorem after_next (c : Dev nD) (t : Fin cfg0.N) (h : t.val ≠ 0) : (dats m ρ 0 c).after 1 t = answer m c := if_neg h

/-- The body's obligation at every point. -/
theorem body_obligation (c : Dev nD) : BodyObligationLoose (dats m ρ 0 c) (defs₀ (F := F)) Variants.none () Set.univ := fun t => by
  rw [bigSep_W0, bigSep_W0, defs_row]
  have hN : t.val < 16 := lt_of_lt_of_eq t.isLt N_0
  have hc := coord_val t
  have hs : (dats m ρ 0 c).Φ t.succ = carried m c ((grid0.coords t 0).val + 1) := by rw [hc]; exact held_next m ρ c t.succ (Nat.succ_ne_zero _)
  rw [hs, show (dats m ρ 0 c).owesAt () t.succ = (dats m ρ 0 c).owesAt () t.castSucc from rfl]
  obtain ⟨p1, p2, p3⟩ := conds (grid0.coords t)
  have hi : idle0 1 (grid0.coords t) = (!(k0_cond1 (grid0.coords t) == 1#1) && !(k0_cond3 (grid0.coords t) == 1#1)) := rfl
  by_cases h0 : t.val = 0
  · have hi' : idle0 1 (grid0.coords t) = false := by rw [hi, (p1 (hc.trans h0)).1]; rfl
    rw [held_first m ρ c t.castSucc h0]
    simp only [hi', after_first m ρ c t h0]
    unfold Pipeline.ΦA
    simp only [scopedRest0_eq, owns, before_0]
    iintro ⟨⟨⟨⟨%f3, H3⟩, ⟨%f4, H4⟩⟩, HP⟩, Ho, ⟨%d, %X, %hX, H1⟩, ⟨%Y, %f2, %hf2, H2⟩⟩
    obtain ⟨R, hR, e2, e3, e4⟩ := leaves_first m c (grid0.coords t) _ (hstage0_0 ((cfg0.slots t 0).cast nbuf0_0)) _ (hstage0_1 ((cfg0.slots t 1).cast nbuf0_1)) X f2 (hX ▸ shows_fill m c t d) (hc.trans h0) f3 f4
    iapply (point_run m c (grid0.coords t) _ _ _ _ X f2 f3 f4 R hR e3 e4 _)
    isplitl [H3 H4 HP]
    · isplitl [H3 H4]
      · isplitl [H3]; · iexact H3
        iexact H4
      · iexact HP
    isplitl [H1]; · iexact H1
    isplitl [H2]; · iexact H2
    iintro ⟨HC, H1, H2⟩
    isplitl [HC]; · iexact HC
    isplitl [Ho]; · iexact Ho
    isplitl [H1]
    · iexists d; iexists X
      isplitr
      · ipureintro; exact hX.trans (handed m c t d).symm
      · iexact H1
    · iexists R.1
      isplitr
      · ipureintro; exact e2
      · iexact H2
  rw [held_next m ρ c t.castSucc h0, show t.castSucc.val = (grid0.coords t 0).val from hc.symm]
  by_cases h15 : t.val = 15
  · have hi' : idle0 1 (grid0.coords t) = false := by rw [hi, (p3 (hc.trans h15)).2.2]; exact Bool.and_false _
    simp only [hi', after_next m ρ c t h0]
    simp only [owns, before_0]
    rw [carried]
    iintro ⟨HC, Ho, ⟨%d, %X, %hX, H1⟩, ⟨%Y, %f2, %hf2, H2⟩⟩
    obtain ⟨R, hR, e2, e3, e4⟩ := leaves_last m c (grid0.coords t) _ (hstage0_0 ((cfg0.slots t 0).cast nbuf0_0)) _ (hstage0_1 ((cfg0.slots t 1).cast nbuf0_1)) X f2 (hX ▸ shows_fill m c t d) (hc.trans h15)
    iapply (point_run m c (grid0.coords t) _ _ _ _ X f2 _ _ R hR e3 e4 _)
    isplitl [HC]; · iexact HC
    isplitl [H1]; · iexact H1
    isplitl [H2]; · iexact H2
    iintro ⟨HC, H1, H2⟩
    isplitl [HC]; · iexact HC
    isplitl [Ho]; · iexact Ho
    isplitl [H1]
    · iexists d; iexists X
      isplitr
      · ipureintro; exact hX.trans (handed m c t d).symm
      · iexact H1
    · iexists R.1
      isplitr
      · ipureintro; exact e2
      · iexact H2
  · obtain ⟨c1, -, c3⟩ := p2 (fun h => h0 (hc.symm.trans h)) (fun h => h15 (hc.symm.trans h))
    have hi' : idle0 1 (grid0.coords t) = true := by
      rw [hi, Bool.and_eq_true, Bool.not_eq_true', Bool.not_eq_true', beq_eq_false_iff_ne, beq_eq_false_iff_ne]; exact ⟨c1, c3⟩
    have hf : (win0 1).flush t = false := by
      rw [Bool.eq_false_iff]; intro h; have := (flush0_1 t).1 h; omega
    simp only [hi', hf]
    simp only [owns, before_0]
    rw [carried]
    iintro ⟨HC, Ho, ⟨%d, %X, %hX, H1⟩, ⟨%Y, %f2, %hf2, H2⟩⟩
    obtain ⟨R, hR, e2, e3, e4⟩ := leaves_mid m c (grid0.coords t) _ (hstage0_0 ((cfg0.slots t 0).cast nbuf0_0)) _ (hstage0_1 ((cfg0.slots t 1).cast nbuf0_1)) X f2 (hX ▸ shows_fill m c t d) (fun h => h0 (hc.symm.trans h)) (fun h => h15 (hc.symm.trans h))
    iapply (point_run m c (grid0.coords t) _ _ _ _ X f2 _ _ R hR e3 e4 _)
    isplitl [HC]; · iexact HC
    isplitl [H1]; · iexact H1
    isplitl [H2]; · iexact H2
    rw [e2]
    iintro ⟨HC, H1, H2⟩
    isplitl [HC]; · iexact HC
    isplitl [Ho]; · iexact Ho
    isplitl [H1]
    · iexists d; iexists X
      isplitr
      · ipureintro; exact hX.trans (handed m c t d).symm
      · iexact H1
    · iexists Y; iexists f2
      isplitr
      · ipureintro; exact hf2
      · iexact H2

end Cert.KernelIdeal.Body

end
-- ==== Proof.Outcome.lean ====
/-
  The idealized kernel's run: it ends, the logits are unchanged, every counter is zero, and the result holds the answer.
-/
module

public import proofs.«01_k».proof.Proof.Point
public import Idealize.ShloMosaic.Lib.Pipeline.ValueKit.Geometry

@[expose] public section

noncomputable section

namespace Cert.KernelIdeal.Body

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The output window's block is the whole output array at every point. -/
theorem out_emb (t : Fin cfg0.N) (y : (win0_1.xblock (grid0.coords t)).Idx) (a : Fin 2) : ((win0_1.blk t).view.emb y a).val = (y a).val := by
  show cc0_transform_1 (grid0.coords t) a * S64x1.size a + 1 * (y a).val = (y a).val
  have : cc0_transform_1 (grid0.coords t) a = 0 := by fin_cases a <;> rfl
  rw [this]; omega

/-- Every element of the output array lies in it. -/
theorem out_cover (t : Fin cfg0.N) (i : S64x1.Idx) : ∃ y : (win0_1.xblock (grid0.coords t)).Idx, (win0_1.blk t).view.emb y = i := by
  refine ⟨fun a => ⟨(i a).val, (i a).isLt⟩, funext fun a => Fin.ext (out_emb t _ a)⟩

/-- The output array ends holding the answer. -/
theorem out_array (c : Dev nD) : (dats m ρ 0 c).arrAt 1 cfg0.N = answer m c := by
  refine (dats m ρ 0 c).arrAt_eq_of_cover 1 (answer m c) (fun t ht => ?_) (fun i => ?_)
  · have h := (flush0_1 t).1 ht
    have h0 : t.val ≠ 0 := fun e => by rw [e] at h; exact absurd h (by decide)
    show win0_1.cut (grid0.coords t) ((dats m ρ 0 c).after 1 t) = _
    rw [after_next m ρ c t h0]
    generalize answer m c = A
    refine funext fun y => ?_
    rw [View.read_apply, Pipeline.Window.cut_apply]
    exact congrArg A (funext fun a => Fin.ext (out_emb t y a).symm)
  · obtain ⟨y, hy⟩ := out_cover t0_15 i
    exact ⟨t0_15, (flush0_1 t0_15).2 rfl, hy ▸ (win0_1.blk t0_15).view.emb_mem_set y⟩

/-- The first point starts from whatever the buffers hold. -/
theorem enter (c : Dev nD) : Pipeline.ΦA spec0 c ⊢ (dats m ρ 0 c).Φ 0 := by
  rw [held_first m ρ c 0 rfl]

/-- What the last point leaves is forgotten. -/
theorem leave (c : Dev nD) : (dats m ρ 0 c).Φ (Fin.last cfg0.N) ⊢ Pipeline.ΦA spec0 c := by
  rw [held_next m ρ c (Fin.last cfg0.N) (by show cfg0.N ≠ 0; exact (N_0 ▸ by decide : grid0.N ≠ 0))]
  unfold Pipeline.ΦA carried
  rw [scopedRest0_eq]
  iintro ⟨⟨H3, H4⟩, HP⟩
  isplitl [H3 H4]
  · isplitl [H3]
    · iexists _; iexact H3
    · iexists _; iexact H4
  · iexact HP

/-- The result: the answer as a vector of 64 columns. -/
def result (c : Dev nD) : Buf (Elt F) ((c : Thread nD τ).loc main_v0) := shapeCast S64 (answer m c) shapeCasts_S64x1_S64

/-- The result buffer after the run. -/
theorem result_value (c : Dev nD) : Pipeline.afterTail₀ cfgs (dats m ρ) 0 (V0 m) [hostOps1] c main_v0 = result m c := by
  unfold Pipeline.afterTail₀
  show StableHlo.after [_] _ _ = _
  rw [StableHlo.after_cons, StableHlo.after_nil]
  refine (StableHlo.reshape_result' _ _ _ _ _).trans ?_
  have e := (Pipeline.withArrays_arr spec0 launch0.win.arr_inj c (V0 m c) (fun w => (dats m ρ 0 c).arrAt w cfg0.N) 1).trans (out_array m ρ c)
  exact funext fun i => congrArg (fun X => shapeCast S64 X shapeCasts_S64x1_S64 i) e

/-- The run of the idealized kernel. -/
theorem outcome : θ_run defs (onTc (τ := τ) (main (F := F))) ⟨m, fun _ => 0, ρ⟩ (fun r => (∀ c : Dev nD,
      r.2.mem ((c.tc : Thread nD τ).loc main_v0) = result m c
        ∧ r.2.mem ((c.tc : Thread nD τ).loc main_arg0) = m ((c.tc : Thread nD τ).loc main_arg0)) ∧ r.2.sem = fun _ => 0) :=
  Pipeline.θ_run_frame_around_track cfgs (dats m ρ) 0 launch0 defs₀ Variants.none m ρ main
    (body_obligation m ρ) (fun c => (dats m ρ 0 c).share_full fun _ => rfl) (fun _ _ => rfl) (V0 m) [hostOps1] sfx_sub sfx_fresh sfx_keeps
    (hmain m Variants.none) (fun c w => by fin_cases w <;> rfl) (enter m ρ) (leave m ρ) _
    (fun r h => ⟨fun c => ⟨((h.1 c).2 main_v0 (by decide)).trans (result_value m ρ c),
      ((h.1 c).1 0).trans (((dats m ρ 0 c).arrAt_in 0 rfl _).trans (V_main_arg0 m c))⟩, h.2⟩)

end Cert.KernelIdeal.Body

end
-- ==== Proof.Lines.lean ====
/-
  Straight-line programs by their equations: a program in which every buffer is written once, after the buffers it is computed
  from, ends with each buffer holding its operation's value at the FINAL contents of its operands. So a run is known by one
  equation per operation, with no contents of intermediate steps.
-/
module

public import Idealize.ShloMosaic.Lib.StableHlo.Run

@[expose] public section

namespace Cert.Lines

open Idealize.ShloMosaic Idealize.ShloMosaic.StableHlo Idealize.ShloMosaic.TcCoe Idealize.SL.Sem

variable {nD : ℕ} {τ : Topo} {sig : RefSig} {Val : EltTy → Type} {Λ : Labels}

/-- A buffer's number. -/
def key (r : Ref sig .tc) : ℕ := r.idx.val

/-- A program's writes in order, each with what it reads. -/
abbrev Log := List (ℕ × List ℕ)

/-- The buffers named in a log. -/
def named (io : Log) : List ℕ := io.flatMap fun p => p.1 :: p.2

/-- Nothing is written after it was written or read. -/
def Settled : Log → Prop
  | [] => True
  | p :: l => p.1 ∉ p.2 ∧ (∀ b ∈ p.1 :: p.2, b ∉ l.map Prod.fst) ∧ Settled l

instance Settled.dec : (io : Log) → Decidable (Settled io)
  | [] => isTrue trivial
  | p :: l => by
    have := Settled.dec l
    unfold Settled
    infer_instance

/-- Two settled parts of a settled log, the later of which writes nothing that the earlier names. -/
theorem Settled.append {l₁ l₂ : Log} (h : Settled (l₁ ++ l₂)) :
    Settled l₁ ∧ Settled l₂ ∧ ∀ b ∈ named l₁, b ∉ l₂.map Prod.fst := by
  induction l₁ with
  | nil => exact ⟨trivial, h, fun b hb => absurd hb List.not_mem_nil⟩
  | cons p l ih =>
    obtain ⟨h1, h2, h3⟩ := h
    obtain ⟨i1, i2, i3⟩ := ih h3
    refine ⟨⟨h1, fun b hb hm => h2 b hb (by show b ∈ (l ++ l₂).map Prod.fst; rw [List.map_append]; exact List.mem_append_left _ hm), i1⟩, i2, fun b hb => ?_⟩
    unfold named at hb
    rw [List.flatMap_cons, List.mem_append] at hb
    rcases hb with hb | hb
    · exact fun hm => h2 b hb (by show b ∈ (l ++ l₂).map Prod.fst; rw [List.map_append]; exact List.mem_append_right _ hm)
    · exact i3 b hb

/-- Program `p` is a straight line that writes by the log `io` and, if the log is settled, ends in contents satisfying `E`. -/
structure Line (p : Prog (TpuEff nD τ sig Val Λ .tc) PUnit) (io : Log) (E : Valuation τ sig Val → Prop) : Prop where
  run : ∃ ops : List (HloOp τ sig Val), p = seq ops ∧ (∀ op ∈ ops, op.bufs ⊆ tcRefs τ sig) ∧ (∀ op ∈ ops, op.fresh = ∅)
    ∧ (∀ op ∈ ops, ∀ b ∈ op.writes, ∃ r : Ref sig .tc, b = Proc.devRef .tc r ∧ key r ∈ io.map Prod.fst)
    ∧ (Settled io → ∀ V, E (after ops V))
  stable : ∀ W W' : Valuation τ sig Val, (∀ r : Ref sig .tc, key r ∈ named io → W (Proc.devRef .tc r) = W' (Proc.devRef .tc r)) → E W → E W'

/-- The contents of a typed reference. -/
abbrev read {T : BufTy} (W : Valuation τ sig Val) (t : TRef sig T) : T.Contents Val := t.ofBuf (W (Proc.devRef .tc t.ref))

/-- Two straight lines one after the other. -/
theorem Line.bind {p q : Prog (TpuEff nD τ sig Val Λ .tc) PUnit} {io₁ io₂ : Log} {E₁ E₂ : Valuation τ sig Val → Prop}
    (h₁ : Line p io₁ E₁) (h₂ : Line q io₂ E₂) : Line (p >>= fun _ => q) (io₁ ++ io₂) (fun W => E₁ W ∧ E₂ W) := by
  obtain ⟨o₁, e₁, b₁, f₁, w₁, r₁⟩ := h₁.run
  obtain ⟨o₂, e₂, b₂, f₂, w₂, r₂⟩ := h₂.run
  constructor
  · refine ⟨o₁ ++ o₂, ?_, ?_, ?_, ?_, fun hs V => ?_⟩
    · rw [seq_append, e₁, e₂]
    · intro op h; rcases List.mem_append.1 h with h | h
      exacts [b₁ op h, b₂ op h]
    · intro op h; rcases List.mem_append.1 h with h | h
      exacts [f₁ op h, f₂ op h]
    · intro op h b hb
      rcases List.mem_append.1 h with h | h
      · obtain ⟨r, hr, hm⟩ := w₁ op h b hb
        exact ⟨r, hr, by rw [List.map_append]; exact List.mem_append_left _ hm⟩
      · obtain ⟨r, hr, hm⟩ := w₂ op h b hb
        exact ⟨r, hr, by rw [List.map_append]; exact List.mem_append_right _ hm⟩
    · obtain ⟨s₁, s₂, hn⟩ := hs.append
      have ha : after (o₁ ++ o₂) V = after o₂ (after o₁ V) := by
        clear * -
        induction o₁ generalizing V with
        | nil => rfl
        | cons op l ih => exact ih (op.result V)
      rw [ha]
      refine ⟨h₁.stable _ _ (fun r hr => (after_of_forall_not_mem o₂ _ fun op hop hb => ?_).symm) (r₁ s₁ V), r₂ s₂ _⟩
      obtain ⟨r', hr', hm⟩ := w₂ op hop _ hb
      rw [← Proc.devRef_injective _ hr'] at hm
      exact hn _ hr hm
  · rintro W W' h ⟨a, b⟩
    refine ⟨h₁.stable W W' (fun r hr => h r ?_) a, h₂.stable W W' (fun r hr => h r ?_) b⟩ <;>
      · unfold named; rw [List.flatMap_append, List.mem_append]
        first | exact Or.inl hr | exact Or.inr hr

/-- One operation. -/
theorem Line.single (op : HloOp τ sig Val) (y : Ref sig .tc) (rs : List (Ref sig .tc)) (E : Valuation τ sig Val → Prop)
    (hw : op.writes = {Proc.devRef .tc y}) (hb : op.bufs ⊆ tcRefs τ sig) (hf : op.fresh = ∅)
    (hE : ∀ V, (∀ r ∈ rs, op.result V (Proc.devRef .tc r) = V (Proc.devRef .tc r)) → E (op.result V))
    (hst : ∀ W W' : Valuation τ sig Val, (∀ r ∈ y :: rs, W (Proc.devRef .tc r) = W' (Proc.devRef .tc r)) → E W → E W') :
    Line (nD := nD) (Λ := Λ) (hlo rfl op fun _ => .ret ⟨⟩) [(key y, rs.map key)] E := by
  constructor
  · refine ⟨[op], rfl, ?_, ?_, ?_, fun hs V => hE V fun r hr => ?_⟩
    · intro o h; rw [List.mem_singleton.1 h]; exact hb
    · intro o h; rw [List.mem_singleton.1 h]; exact hf
    · intro o h b hb'
      rw [List.mem_singleton.1 h, hw, Finset.mem_singleton] at hb'
      exact ⟨y, hb', List.mem_singleton_self _⟩
    · refine op.result_of_not_mem V ?_
      rw [hw, Finset.mem_singleton]
      exact devRef_ne_of_ne fun e => hs.1 (List.mem_map.2 ⟨r, hr, by rw [e]⟩)
  · intro W W' h hE'
    refine hst W W' (fun r hr => h r ?_) hE'
    unfold named
    rw [List.flatMap_cons, List.flatMap_nil, List.append_nil]
    show key r ∈ (y :: rs).map key
    exact List.mem_map_of_mem hr

/-- Nothing. -/
theorem Line.nil : Line (nD := nD) (Λ := Λ) (pure ⟨⟩) [] (fun _ : Valuation τ sig Val => True) :=
  ⟨⟨[], rfl, nofun, nofun, nofun, fun _ _ => trivial⟩, fun _ _ _ _ => trivial⟩

section
variable {T Tx Ta Tb Tc Te Ty : BufTy}

/-- A constant. -/
theorem Line.nullary (y : TRef sig Ty) (v : Ty.Contents Val) :
    Line (nD := nD) (τ := τ) (Λ := Λ) (hlo rfl (TRef.nullary y v) fun _ => .ret ⟨⟩) [(key y.ref, [])] (fun W => read W y = v) :=
  Line.single _ y.ref [] _ rfl (nullary_bufs_sub ..) rfl
    (fun V _ => by rw [read, nullary_result, TRef.ofBuf_toBuf])
    (fun W W' h e => by rw [read, ← h _ List.mem_cons_self]; exact e)

/-- An operation on one buffer. -/
theorem Line.unary (x : TRef sig Tx) (y : TRef sig Ty) (f : Tx.Contents Val → Ty.Contents Val) :
    Line (nD := nD) (τ := τ) (Λ := Λ) (hlo rfl (TRef.unary x y f) fun _ => .ret ⟨⟩) [(key y.ref, [key x.ref])] (fun W => read W y = f (read W x)) :=
  Line.single _ y.ref [x.ref] _ rfl (unary_bufs_sub ..) rfl
    (fun V h => by rw [read, read, h x.ref (by simp), unary_result, TRef.ofBuf_toBuf])
    (fun W W' h e => by rw [read, read, ← h y.ref (by simp), ← h x.ref (by simp)]; exact e)

/-- An operation on two buffers. -/
theorem Line.binary (a : TRef sig Ta) (b : TRef sig Tb) (y : TRef sig Ty) (f : Ta.Contents Val → Tb.Contents Val → Ty.Contents Val) :
    Line (nD := nD) (τ := τ) (Λ := Λ) (hlo rfl (TRef.binary a b y f) fun _ => .ret ⟨⟩) [(key y.ref, [key a.ref, key b.ref])]
      (fun W => read W y = f (read W a) (read W b)) :=
  Line.single _ y.ref [a.ref, b.ref] _ rfl (binary_bufs_sub ..) rfl
    (fun V h => by rw [read, read, read, h a.ref (by simp), h b.ref (by simp), binary_result, TRef.ofBuf_toBuf])
    (fun W W' h e => by rw [read, read, read, ← h y.ref (by simp), ← h a.ref (by simp), ← h b.ref (by simp)]; exact e)

/-- An operation on four buffers. -/
theorem Line.quaternary (a : TRef sig Ta) (b : TRef sig Tb) (c : TRef sig Tc) (d : TRef sig Te) (y : TRef sig Ty)
    (f : Ta.Contents Val → Tb.Contents Val → Tc.Contents Val → Te.Contents Val → Ty.Contents Val) :
    Line (nD := nD) (τ := τ) (Λ := Λ) (hlo rfl (TRef.quaternary a b c d y f) fun _ => .ret ⟨⟩) [(key y.ref, [key a.ref, key b.ref, key c.ref, key d.ref])]
      (fun W => read W y = f (read W a) (read W b) (read W c) (read W d)) :=
  Line.single _ y.ref [a.ref, b.ref, c.ref, d.ref] _ rfl (quaternary_bufs_sub ..) rfl
    (fun V h => by rw [read, read, read, read, read, h a.ref (by simp), h b.ref (by simp), h c.ref (by simp), h d.ref (by simp), quaternary_result, TRef.ofBuf_toBuf])
    (fun W W' h e => by
      rw [read, read, read, read, read, ← h y.ref (by simp), ← h a.ref (by simp), ← h b.ref (by simp), ← h c.ref (by simp), ← h d.ref (by simp)]; exact e)

/-- A reshape. -/
theorem Line.reshape (x : TRef sig Tx) (y : TRef sig Ty) (he : Tx.elt = Ty.elt) (hn : Tx.shape.ShapeCasts Ty.shape) :
    Line (nD := nD) (τ := τ) (Λ := Λ) (hlo rfl (TRef.reshape (Val := Val) x y he hn) fun _ => .ret ⟨⟩) [(key y.ref, [key x.ref])]
      (fun W => read W y = fun i => he ▸ shapeCast Ty.shape (read W x) hn i) :=
  Line.single _ y.ref [x.ref] _ rfl (reshape_bufs_sub ..) rfl
    (fun V h => by
      rw [read, read, h x.ref (by simp), reshape_result]
      obtain ⟨rx, rfl, _, _⟩ := x
      obtain ⟨ry, rfl, _, _⟩ := y
      rfl)
    (fun W W' h e => by rw [read, read, ← h y.ref (by simp), ← h x.ref (by simp)]; exact e)

/-- The same operations over buffers whose types are read off. -/
theorem Line.plain_nullary (y : Ref sig .tc) (v : y.ty.Contents Val) (hy) :
    Line (nD := nD) (τ := τ) (Λ := Λ) (hlo rfl (StableHlo.nullary y v hy) fun _ => .ret ⟨⟩) [(key y, [])] (fun W => W (Proc.devRef .tc y) = v) :=
  Line.single _ y [] _ rfl (nullary_bufs_sub ..) rfl (fun V _ => nullary_result ..)
    (fun W W' h e => by rw [← h _ List.mem_cons_self]; exact e)

/-- An operation on one buffer, its type read off. -/
theorem Line.plain_unary (x y : Ref sig .tc) (f : x.ty.Contents Val → y.ty.Contents Val) (hx hy) :
    Line (nD := nD) (τ := τ) (Λ := Λ) (hlo rfl (StableHlo.unary x y f hx hy) fun _ => .ret ⟨⟩) [(key y, [key x])]
      (fun W => W (Proc.devRef .tc y) = f (W (Proc.devRef .tc x))) :=
  Line.single _ y [x] _ rfl (unary_bufs_sub ..) rfl
    (fun V h => by rw [h x (by simp)]; exact unary_result ..)
    (fun W W' h e => by rw [← h y (by simp), ← h x (by simp)]; exact e)

/-- An operation on two buffers, their types read off. -/
theorem Line.plain_binary (a b y : Ref sig .tc) (f : a.ty.Contents Val → b.ty.Contents Val → y.ty.Contents Val) (ha hb hy) :
    Line (nD := nD) (τ := τ) (Λ := Λ) (hlo rfl (StableHlo.binary a b y f ha hb hy) fun _ => .ret ⟨⟩) [(key y, [key a, key b])]
      (fun W => W (Proc.devRef .tc y) = f (W (Proc.devRef .tc a)) (W (Proc.devRef .tc b))) :=
  Line.single _ y [a, b] _ rfl (binary_bufs_sub ..) rfl
    (fun V h => by rw [h a (by simp), h b (by simp)]; exact binary_result ..)
    (fun W W' h e => by rw [← h y (by simp), ← h a (by simp), ← h b (by simp)]; exact e)

end

/-- A straight line with its log and its equations. -/
structure Known (p : Prog (TpuEff nD τ sig Val Λ .tc) PUnit) where
  /-- What it writes and reads. -/
  log : Log
  /-- What holds after it. -/
  eqs : Valuation τ sig Val → Prop
  line : Line p log eqs

/-- A whole program that is a settled straight line ends in contents satisfying its equations, and keeps every buffer it
    does not write. -/
theorem ends (hR : (Finset.univ.filter fun b : Ref sig .tc => b.isScoped) = ∅)
    (hC : (Finset.univ.filter fun sm : SemLoc sig => sm.isScoped .tc) = ∅)
    (defs : Defs nD τ sig Val Λ) (main : Dev nD → Prog (TpuEff nD τ sig Val Λ .tc) PUnit) (K : ∀ d, Known (main d))
    (hs : ∀ d, Settled (K d).log) (m : (ℓ : Loc nD τ sig) → Buf Val ℓ) (ρ : Dev nD → PrngReg) :
    θ_run defs (onTc main) ⟨m, fun _ => 0, ρ⟩ fun r => ∀ d : Dev nD, ∃ W : Valuation τ sig Val, (K d).eqs W
      ∧ ∀ b : Ref sig .tc, r.2.mem (d.tc.loc b) = W (Proc.devRef .tc b)
        ∧ (key b ∉ (K d).log.map Prod.fst → r.2.mem (d.tc.loc b) = m (d.tc.loc b)) := by
  choose ops hp hb hf hw hr using fun d => (K d).line.run
  refine (θ_run defs _ _).mono (fun r h d => ⟨after (ops d) (launchContents m d), hr d (hs d) _, fun b => ⟨h d b, fun hk => ?_⟩⟩)
    (run_seq hR hC defs main ops hp (fun d => List.forall_iff_forall_mem.2 (hb d)) m ρ hf)
  rw [h d b, after_of_forall_not_mem (ops d) _ fun op hop hm => ?_]
  obtain ⟨b', e, hk'⟩ := hw d op hop _ hm
  rw [← Proc.devRef_injective _ e] at hk'
  exact hk hk'

end Cert.Lines

end
-- ==== Proof.RefRun.lean ====
/-
  The reference's program as a straight line: its log of writes, and one equation per operation.
-/
module

public import proofs.«01_k».proof.Proof.Lines
public import proofs.«01_k».proof.Proof.Gen.ReferenceIdeal
public import Idealize.ShloMosaic.Lib.Quiescent
public import Idealize.ShloMosaic.PureOps.Ideal

@[expose] public section

noncomputable section

namespace Cert.ReferenceIdeal.Ref

open Cert.ReferenceIdeal Cert.ReferenceIdeal.Gen Cert.Lines
open Idealize.ShloMosaic Idealize.ShloMosaic.StableHlo Idealize.ShloMosaic.TcCoe Idealize.SL.Sem

variable {F : FTy → Type} [FloatOps F]

section
variable (arg0 arg1 : TRef sig ⟨S_, .i32⟩) (arg2 arg3 : TRef sig ⟨S64x1000000, .i32⟩) (φ : fn_threefry2x32.Bufs)

/-- The generator's operations 1 to 60. -/
def word0 : Known (fn_threefry2x32.body_part0 (F := F) arg0 arg1 arg2 arg3 φ) := by
  apply Known.mk
  unfold fn_threefry2x32.body_part0
  repeat' first
    | with_reducible apply Line.bind
    | with_reducible exact Line.nullary _ _
    | with_reducible exact Line.unary _ _ _
    | with_reducible exact Line.binary _ _ _ _

/-- The generator's operations 61 to 120. -/
def word1 : Known (fn_threefry2x32.body_part1 (F := F) arg0 arg1 arg2 arg3 φ) := by
  apply Known.mk
  unfold fn_threefry2x32.body_part1
  repeat' first
    | with_reducible apply Line.bind
    | with_reducible exact Line.nullary _ _
    | with_reducible exact Line.unary _ _ _
    | with_reducible exact Line.binary _ _ _ _

/-- The generator's operations 121 to 180. -/
def word2 : Known (fn_threefry2x32.body_part2 (F := F) arg0 arg1 arg2 arg3 φ) := by
  apply Known.mk
  unfold fn_threefry2x32.body_part2
  repeat' first
    | with_reducible apply Line.bind
    | with_reducible exact Line.nullary _ _
    | with_reducible exact Line.unary _ _ _
    | with_reducible exact Line.binary _ _ _ _

/-- The generator's operations 181 to 223. -/
def word3 : Known (fn_threefry2x32.body_part3 (F := F) arg0 arg1 arg2 arg3 φ) := by
  apply Known.mk
  unfold fn_threefry2x32.body_part3
  repeat' first
    | with_reducible apply Line.bind
    | with_reducible exact Line.nullary _ _
    | with_reducible exact Line.unary _ _ _
    | with_reducible exact Line.binary _ _ _ _
    | with_reducible exact Line.nil

/-- The generator's operations. -/
def words : Known (fn_threefry2x32.body (F := F) arg0 arg1 arg2 arg3 φ) := by
  apply Known.mk
  unfold fn_threefry2x32.body
  repeat' first
    | with_reducible apply Line.bind
    | with_reducible exact (word0 _ _ _ _ _).line
    | with_reducible exact (word1 _ _ _ _ _).line
    | with_reducible exact (word2 _ _ _ _ _).line
    | with_reducible exact (word3 _ _ _ _ _).line
    | with_reducible exact Line.nil

end

/-- The operations that make the numbers in the unit interval. -/
def uniform (arg0 : TRef sig ⟨S2, .i32⟩) (arg1 arg2 : TRef sig ⟨S_, .f32⟩) (φ : fn_uniform.Bufs) :
    Known (fn_uniform.body (F := F) arg0 arg1 arg2 φ) := by
  apply Known.mk
  unfold fn_uniform.body
  repeat' first
    | with_reducible apply Line.bind
    | with_reducible exact Line.nullary _ _
    | with_reducible exact Line.unary _ _ _
    | with_reducible exact Line.binary _ _ _ _
    | with_reducible exact Line.reshape _ _ _ _
    | with_reducible exact (words _ _ _ _ _).line
    | with_reducible exact Line.nil

/-- The operations that find the rows' largest scores. -/
def argmax (arg0 : TRef sig ⟨S64x1000000, .f32⟩) (φ : fn_argmax.Bufs) : Known (fn_argmax.body (F := F) arg0 φ) := by
  apply Known.mk
  unfold fn_argmax.body
  repeat' first
    | with_reducible apply Line.bind
    | with_reducible exact Line.nullary _ _
    | with_reducible exact Line.quaternary _ _ _ _ _ _
    | with_reducible exact Line.nil

/-- The whole program. -/
def whole (c : Dev nD) : Known (main (F := F) c) := by
  apply Known.mk
  unfold main
  repeat' first
    | with_reducible apply Line.bind
    | with_reducible exact Line.plain_nullary _ _ _
    | with_reducible exact Line.plain_unary _ _ _ _ _
    | with_reducible exact Line.plain_binary _ _ _ _ _ _ _
    | with_reducible exact (uniform _ _ _ _).line
    | with_reducible exact (argmax _ _).line
    | with_reducible exact Line.nil

/-- The log of the whole program names buffers only, whatever the numbers are. -/
theorem log_eq (c : Dev nD) : (whole (F := F) c).log = (whole (F := Ideal) 0).log := rfl

/-- Nothing is written after it was written or read. -/
theorem settled (c : Dev nD) : Settled (whole (F := F) c).log := by
  rw [log_eq]
  decide +kernel

/-- The reference's run: it ends in contents that satisfy its equations, the logits unchanged and every counter at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, (∃ W : Valuation τ sig (Elt F), (whole (F := F) c).eqs W
        ∧ ∀ b : Ref sig .tc, r.2.mem (c.tc.loc b) = W (Proc.devRef .tc b))
        ∧ r.2.mem (c.tc.loc main_arg0) = m (c.tc.loc main_arg0))
      ∧ r.2.sem = fun _ => 0 :=
  (θ_run defs _ _).mono (fun r h => ⟨fun c => by
      obtain ⟨W, hW, hb⟩ := h c
      exact ⟨⟨W, hW, fun b => (hb b).1⟩, (hb main_arg0).2 (by rw [log_eq]; decide +kernel)⟩, Idealize.ShloMosaic.sem_eq_zero_of_no_sems (by decide) r.2⟩)
    (ends (by decide) (by decide) defs main whole (settled (F := F)) m ρ)

end Cert.ReferenceIdeal.Ref

end
-- ==== Proof.First.lean ====
/-
  The first largest column of a row, over the extended reals, and that the pairs of the scan find it: each lane keeps its first
  largest column, and the smallest of those columns whose score is the largest of all is the row's.
-/
module

public import proofs.«01_k».proof.Proof.Scan
public import Idealize.ShloMosaic.PureOps.Ideal
public import Idealize.ShloMosaic.PureOps.Ideal.Laws

@[expose] public section

noncomputable section

namespace Cert.Words

open Idealize.ShloMosaic

/-- `K` is the first column, of a million, where `f` is largest. -/
def First (f : ℕ → EReal) (K : ℕ) : Prop := K < 1000000 ∧ ∀ q < 1000000, f q < f K ∨ (f q = f K ∧ K ≤ q)

/-- Some column is the first where `f` is largest. -/
theorem exists_first (f : ℕ → EReal) : ∃ K, First f K := by
  classical
  obtain ⟨q, hq, hmax⟩ := Finset.exists_max_image (Finset.range 1000000) f ⟨0, Finset.mem_range.2 (by omega)⟩
  have hp : ∃ k, k < 1000000 ∧ f k = f q := ⟨q, Finset.mem_range.1 hq, rfl⟩
  refine ⟨Nat.find hp, (Nat.find_spec hp).1, fun p hp' => ?_⟩
  rw [(Nat.find_spec hp).2]
  rcases lt_or_eq_of_le (hmax p (Finset.mem_range.2 hp')) with h | h
  · exact .inl h
  · exact .inr ⟨h, Nat.find_min' hp ⟨hp', h⟩⟩

/-- What a lane's pair says of the scores `g` of its first `n` chunks: `v` bounds them, and chunk `k` is the first with the
    score `v`, or nothing above minus infinity has been met and `k` is zero. -/
def Kept (g : ℕ → EReal) (n : ℕ) (v : EReal) (k : ℕ) : Prop :=
  (∀ i < n, g i ≤ v) ∧ ((v = ⊥ ∧ k = 0) ∨ (k < n ∧ g k = v ∧ ∀ i < k, g i < v))

/-- The word of minus infinity is the bottom of the extended reals. -/
theorem bot_word : (Scalar.ofBits .f32 0xFF800000#32 : Ideal .f32) = (⊥ : EReal) := by
  show Ideal.ofBits .f32 0xFF800000#32 = ⊥
  simp [Ideal.ofBits, Ideal.ieee]

/-- The running pair keeps what `Kept` says. -/
theorem run_kept (x : ℕ → ℕ → Ideal .f32) (r l n : ℕ) :
    ∃ k, (run x r l n).2 = BitVec.ofNat 32 (128 * k) ∧ Kept (fun i => cell x r (128 * i + l)) n (run x r l n).1 k := by
  induction n with
  | zero => exact ⟨0, rfl, fun i hi => absurd hi (by omega), .inl ⟨bot_word, rfl⟩⟩
  | succ n ih =>
    obtain ⟨k, hb, hv, hk⟩ := ih
    rw [run_succ]
    generalize run x r l n = a at hb hv hk
    obtain ⟨v, b⟩ := a
    subst hb
    simp only at hv hk
    have e1 : ∀ s : Ideal .f32, (step s n (v, BitVec.ofNat 32 (128 * k))).1 = (max s v : EReal) := fun s => rfl
    have e2 : ∀ s : Ideal .f32, (step s n (v, BitVec.ofNat 32 (128 * k))).2
        = if (v : EReal) < s then BitVec.ofNat 32 (128 * n) else BitVec.ofNat 32 (128 * k) := fun s => by
      show Scalar.select (BitVec.ofBool (decide ((v : EReal) < s))) _ _ = _
      unfold Scalar.select
      by_cases h : (v : EReal) < s <;> simp [h]
    rw [e1, e2]
    by_cases h : (v : EReal) < cell x r (128 * n + l)
    · rw [if_pos h, max_eq_left h.le]
      refine ⟨n, rfl, fun i hi => ?_, .inr ⟨by omega, rfl, fun i hi => (hv i hi).trans_lt h⟩⟩
      rcases Nat.lt_succ_iff_lt_or_eq.1 hi with hi | rfl
      · exact (hv i hi).trans h.le
      · exact le_rfl
    · rw [if_neg h, max_eq_right (not_lt.1 h)]
      refine ⟨k, rfl, fun i hi => ?_, hk.imp id fun hk => ⟨by omega, hk.2⟩⟩
      rcases Nat.lt_succ_iff_lt_or_eq.1 hi with hi | rfl
      · exact hv i hi
      · exact not_lt.1 h

/-- Outside the array a cell holds minus infinity. -/
theorem cell_out (x : ℕ → ℕ → Ideal .f32) (r q : ℕ) (h : ¬ q < 1000000) : cell x r q = (⊥ : EReal) := (if_neg h).trans bot_word

section Lanes

variable {x : ℕ → ℕ → Ideal .f32} {r K : ℕ} (hK : First (cell x r) K)
include hK

/-- No cell is above the row's largest. -/
theorem cell_le (q : ℕ) : (cell x r q : EReal) ≤ cell x r K := by
  by_cases h : q < 1000000
  · rcases hK.2 q h with h | h
    exacts [h.le, h.1.le]
  · rw [cell_out x r q h]; exact bot_le

/-- No lane's maximum is above the row's largest score. -/
theorem lane_le (l n : ℕ) : ((run x r l n).1 : EReal) ≤ cell x r K := by
  obtain ⟨k, -, -, ⟨h, -⟩ | ⟨-, h, -⟩⟩ := run_kept x r l n
  · rw [h]; exact bot_le
  · rw [← h]; exact cell_le hK _

/-- A lane whose maximum is the row's largest score found it in a column not before `K`. -/
theorem lane_col (l : ℕ) (hl : l < 128) (h : ((run x r l 7813).1 : EReal) = cell x r K) :
    ∃ p, (run x r l 7813).2 + BitVec.ofNat 32 l = BitVec.ofNat 32 p ∧ p < 2000000 ∧ K ≤ p := by
  obtain ⟨k, hb, hv, hk⟩ := run_kept x r l 7813
  have hadd : (run x r l 7813).2 + BitVec.ofNat 32 l = BitVec.ofNat 32 (128 * k + l) := by rw [hb, BitVec.ofNat_add]
  refine ⟨_, hadd, ?_, ?_⟩
  · rcases hk with hk | hk <;> omega
  · rcases hk with ⟨hb, -⟩ | ⟨-, hk, -⟩
    · have h0 : cell x r K = (⊥ : EReal) := h.symm.trans hb
      rcases hK.2 0 (by omega) with h1 | h1
      · rw [h0] at h1; exact absurd h1 not_lt_bot
      · omega
    · by_cases hq : 128 * k + l < 1000000
      · rcases hK.2 _ hq with h1 | h1
        · exact absurd (hk.trans h) h1.ne
        · exact h1.2
      · have := hK.1; omega

/-- The lane of column `K` has the row's largest score. -/
theorem lane_hit : ((run x r (K % 128) 7813).1 : EReal) = cell x r K := by
  obtain ⟨k, -, hv, -⟩ := run_kept x r (K % 128) 7813
  refine le_antisymm (lane_le hK _ _) ?_
  have := hv (K / 128) (by have := hK.1; omega)
  simp only [Nat.div_add_mod] at this
  exact this

/-- The lane of column `K` found its largest score in column `K`. -/
theorem lane_hit_col : (run x r (K % 128) 7813).2 + BitVec.ofNat 32 (K % 128) = BitVec.ofNat 32 K := by
  have hit := lane_hit hK
  obtain ⟨k, hb, hv, hk⟩ := run_kept x r (K % 128) 7813
  rw [hb, ← BitVec.ofNat_add]
  congr 1
  rcases hk with ⟨hbot, rfl⟩ | ⟨-, hk, hlt⟩
  · have h0 : cell x r K = (⊥ : EReal) := hit.symm.trans hbot
    rcases hK.2 0 (by omega) with h1 | h1
    · rw [h0] at h1; exact absurd h1 not_lt_bot
    · omega
  · have h1 : ¬ K / 128 < k := fun h => by
      have := hlt _ h
      simp only [Nat.div_add_mod] at this
      exact absurd hit.symm this.ne
    have hq : K ≤ 128 * k + K % 128 := by
      by_cases hq : 128 * k + K % 128 < 1000000
      · rcases hK.2 _ hq with h1 | h1
        · exact absurd (hk.trans hit) h1.ne
        · exact h1.2
      · have := hK.1; omega
    omega

end Lanes

/-- A fold by the signed minimum is the value `w` when one of its terms is `w` and neither the start nor any term is below. -/
theorem fold_min {ι : Type} (s : Finset ι) (f : ι → BitVec 32) (a w : BitVec 32) (ha : w.toInt ≤ a.toInt)
    (hf : ∀ i ∈ s, w.toInt ≤ (f i).toInt) (i₀ : ι) (h₀ : i₀ ∈ s) (h : f i₀ = w) : s.fold IntOp.minsi a f = w := by
  have key : ∀ c : BitVec 32, c.toInt ≤ (s.fold IntOp.minsi a f).toInt ↔ c.toInt ≤ a.toInt ∧ ∀ i ∈ s, c.toInt ≤ (f i).toInt := fun c =>
    Finset.fold_op_rel_iff_and (r := fun c d : BitVec 32 => c.toInt ≤ d.toInt) fun {x y z} => by
      unfold IntOp.minsi
      rw [BitVec.slt_eq_decide]
      by_cases h : y.toInt < z.toInt <;> simp [h] <;> omega
  exact BitVec.eq_of_toInt_eq (le_antisymm (h ▸ ((key _).1 le_rfl).2 i₀ h₀) ((key w).2 ⟨ha, hf⟩))

/-- A fold by the maximum from minus infinity is the value `w` when one of its terms is `w` and no term is above. -/
theorem fold_max_eq {ι : Type} (s : Finset ι) (f : ι → Ideal .f32) (w : EReal)
    (hf : ∀ i ∈ s, (f i : EReal) ≤ w) (i₀ : ι) (h₀ : i₀ ∈ s) (h : f i₀ = w) :
    s.fold (FloatOps.maximumf (F := Ideal) (φ := .f32)) (FloatOps.ofBits .f32 0xFF800000#32) f = w := by
  have key : ∀ c : EReal, (s.fold (FloatOps.maximumf (F := Ideal) (φ := .f32)) (FloatOps.ofBits .f32 0xFF800000#32 : Ideal .f32) f : EReal) ≤ c
      ↔ (FloatOps.ofBits .f32 0xFF800000#32 : Ideal .f32) ≤ c ∧ ∀ i ∈ s, f i ≤ (c : Ideal .f32) := fun c =>
    Finset.fold_op_rel_iff_and (op := FloatOps.maximumf (F := Ideal) (φ := .f32)) (r := fun c d : Ideal .f32 => (d : EReal) ≤ c)
      fun {x y z} => max_le_iff (a := (y : EReal)) (b := z) (c := x)
  refine le_antisymm ((key w).2 ⟨?_, hf⟩) (h ▸ ((key _).1 le_rfl).2 i₀ h₀)
  exact bot_word.le.trans bot_le

end Cert.Words
end
-- ==== Proof.Answer.lean ====
/-
  What the kernel answers over the extended reals: for each row the first column with the largest score.
-/
module

public import proofs.«01_k».proof.Proof.Outcome
public import proofs.«01_k».proof.Proof.First
public import Idealize.ShloMosaic.Lib.Pointwise

@[expose] public section

noncomputable section

namespace Cert.KernelIdeal.Body

open Cert.KernelIdeal Cert.KernelIdeal.Gen Cert.Words
open Idealize.ShloMosaic Idealize.ShloMosaic.TcCoe

variable (m : (ℓ : Loc nD τ sig) → Buf (Elt Ideal) ℓ)

/-- Row `r`'s lane `l`. -/
abbrev laneAt (r l : ℕ) (h : r < 64 ∧ l < 128) : S64x128.Idx :=
  fun a => ⟨(![r, l] : Fin 2 → ℕ) a, by fin_cases a; exacts [h.1, h.2]⟩

/-- A row's lanes are those whose first coordinate is the row. -/
theorem drop_iff (i : S64x128.Idx) (j : S64.Idx) : reduces_S64x128_S64.drop i = j ↔ (i 0).val = (j 0).val := by
  have h : (reduces_S64x128_S64.drop i 0 : ℕ) = i 0 := Shape.Reduces.drop_apply_val_of_eq _ i 0 0
  constructor
  · rintro rfl; exact h.symm
  · intro e; funext a; fin_cases a; exact Fin.ext (h.trans e)

/-- One number per row, shown on all the row's lanes. -/
theorem spread {α : Type} (v : S64.Idx → α) (i : S64x128.Idx) (j : S64.Idx) (h : (i 0).val = (j 0).val) :
    broadcastTo S64x128 (shapeCast S64x1 v shapeCasts_S64_S64x1) broadcasts_S64x1_S64x128 i = v j := by
  simp only [pointwise]
  congr 1
  funext a; fin_cases a
  exact Fin.ext h

/-- The answer for a row is the first column with the largest score. -/
theorem result_eq (c : Dev nD) (j : S64.Idx) (K : ℕ) (hK : First (cell (logits m c) (j 0).val) K) :
    (result m c : IVec S64 32) j = BitVec.ofNat 32 K := by
  have hj : (j 0).val < 64 := (j 0).isLt
  have h128 : K % 128 < 128 := Nat.mod_lt _ (by omega)
  have hK6 := hK.1
  let i₀ := laneAt (j 0).val (K % 128) ⟨hj, h128⟩
  have mem₀ : i₀ ∈ Finset.univ.filter fun i : S64x128.Idx => reduces_S64x128_S64.drop i = j :=
    Finset.mem_filter.2 ⟨Finset.mem_univ _, (drop_iff _ _).2 rfl⟩
  have row : ∀ i ∈ Finset.univ.filter fun i : S64x128.Idx => reduces_S64x128_S64.drop i = j, (i 0).val = (j 0).val :=
    fun i hi => (drop_iff _ _).1 (Finset.mem_filter.1 hi).2
  have hmax : multiReduction .maximumf [1] S64 (best m c 7813) 0xFF800000#32 reduces_S64x128_S64 (.inl rfl) rfl j
      = cell (logits m c) (j 0).val K := by
    refine (multiReduction_maximumf_eq_fold (F := Ideal) (φ := .f32) _ _ _ _ _ _).trans (fold_max_eq _ _ _ (fun i hi => ?_) i₀ mem₀ (lane_hit hK))
    show ((run (logits m c) (i 0).val (i 1).val 7813).1 : EReal) ≤ _
    rw [row i hi]; exact lane_le hK _ _
  have hword : ∀ p, p < 2000000 → (BitVec.ofNat 32 p).toInt = p := fun p hp => by
    rw [BitVec.toInt_ofNat', Int.bmod_eq_of_le] <;> omega
  show shapeCast S64 (k0_pay9 (where_ m c 7813) (best m c 7813)) _ j = _
  unfold k0_pay9
  simp only [shapeCast_comp, shapeCast_id]
  refine (multiReductionI_eq_fold _ _ _ _ _ _).trans ?_
  have hval : ∀ i : S64x128.Idx, (i 0).val = (j 0).val →
      select (cmpf .oeq (best m c 7813) (broadcastTo S64x128 (shapeCast S64x1 (multiReduction .maximumf [1] S64 (best m c 7813) 0xFF800000#32
          reduces_S64x128_S64 (.inl rfl) rfl) shapeCasts_S64_S64x1) broadcasts_S64x1_S64x128))
        (addi (where_ m c 7813) (iota .tc S64x128 32 [1] iota_S64x128_d1_w32)) (broadcast S64x128 2147483647#32) i
      = if ((run (logits m c) (j 0).val (i 1).val 7813).1 : EReal) = cell (logits m c) (j 0).val K
        then (run (logits m c) (j 0).val (i 1).val 7813).2 + BitVec.ofNat 32 (i 1).val else 2147483647#32 := fun i hi => by
    show Scalar.select (BitVec.ofBool (decide ((run (logits m c) (i 0).val (i 1).val 7813).1 = _))) ((run (logits m c) (i 0).val (i 1).val 7813).2 + BitVec.ofNat 32 (([1] : List (Fin S64x128.rank)).foldl (fun n a => n * S64x128.size a + (i a).val) 0)) 2147483647#32 = _
    rw [spread _ i j hi, hmax, hi]
    have e : ([1] : List (Fin S64x128.rank)).foldl (fun n a => n * S64x128.size a + (i a).val) 0 = (i 1).val := by simp
    rw [e]
    unfold Scalar.select
    by_cases h : ((run (logits m c) (j 0).val (i 1).val 7813).1 : EReal) = cell (logits m c) (j 0).val K <;> simp [h]
  refine fold_min _ _ _ _ ?_ (fun i hi => ?_) i₀ mem₀ ?_
  · rw [hword K (by omega)]; show (K : ℤ) ≤ 2147483647; omega
  · refine le_of_le_of_eq ?_ (congrArg BitVec.toInt (hval i (row i hi))).symm
    rw [hword K (by omega)]
    split
    · rename_i h
      obtain ⟨p, e, hp, hKp⟩ := lane_col hK (i 1).val (i 1).isLt h
      rw [e, hword p hp]; omega
    · show (K : ℤ) ≤ 2147483647; omega
  · exact (hval i₀ rfl).trans ((if_pos (lane_hit hK)).trans (lane_hit_col hK))

end Cert.KernelIdeal.Body
end
-- ==== Proof.RefWord.lean ====
/-
  The generator of the reference, at one position: its equations, round by round, say that the two words it leaves there,
  joined, are the word of the counter.
-/
module

public import proofs.«01_k».proof.Proof.RefRun
public import proofs.«01_k».proof.Proof.Words

@[expose] public section

noncomputable section

namespace Cert.ReferenceIdeal.Ref

open Cert.ReferenceIdeal Cert.ReferenceIdeal.Gen Cert.Lines Cert.Words
open Idealize.ShloMosaic Idealize.ShloMosaic.StableHlo Idealize.ShloMosaic.TcCoe Idealize.SL.Sem

variable {F : FTy → Type} [FloatOps F]

/-- The two parts of a rotated word have no bit in common, so joining them by `or` is joining them by exclusive or. -/
theorem or_eq_rl (r : ℕ) (b : BitVec 32) : b <<< r ||| b >>> (32 - r) = rl r b := by
  unfold rl
  ext i hi
  simp only [BitVec.getElem_or, BitVec.getElem_xor, BitVec.getElem_shiftLeft, BitVec.getElem_ushiftRight]
  by_cases h : i < r
  · simp [h]
  · rw [BitVec.getLsbD_of_ge b (32 - r + i) (by omega)]; simp

/-- One number, everywhere. -/
abbrev B (x : IVec S_ 32) : IVec S64x1000000 32 := broadcastInDim S64x1000000 ![] Facts₀.bcast_S_S64x1000000 x

/-- A broadcast number is that number everywhere. -/
theorem B_apply (x : IVec S_ 32) (k : BitVec 32) (h : ∀ j, x j = k) (i : S64x1000000.Idx) : B x i = k := h _

/-- A broadcast constant is that constant everywhere. -/
theorem B_const {x : IVec S_ 32} {k : BitVec 32} {b : IVec S64x1000000 32} (h : x = constantI S_ 32 k) (hb : b = B x) (i : S64x1000000.Idx) : b i = k := by
  rw [hb, h]; rfl

/-- The words `x`, `y` at position `i`: their sum is the pair's first, the second its second. -/
def At (i : S64x1000000.Idx) (x y : IVec S64x1000000 32) (p : BitVec 32 × BitVec 32) : Prop := x i + y i = p.1 ∧ y i = p.2

/-- One round. -/
theorem At.round {i : S64x1000000.Idx} {x y s b l b' u o z : IVec S64x1000000 32} {c c' : IVec S_ 32} {r r' : BitVec 32}
    {p : BitVec 32 × BitVec 32} (h : At i x y p) (hs : s = addi x y) (hc : c = constantI S_ 32 r) (hb : b = B c) (hl : l = Host.shli y b)
    (hc' : c' = constantI S_ 32 r') (hb' : b' = B c') (hu : u = Host.shrui y b') (ho : o = ori l u) (hz : z = xori s o)
    (n : ℕ) (h1 : r = BitVec.ofNat 32 n := by rfl) (h2 : r' = BitVec.ofNat 32 (32 - n) := by rfl) (h3 : 0 < n ∧ n < 32 := by decide) :
    s i = p.1 ∧ z i = mix n p.1 p.2 := by
  obtain ⟨ha, hy⟩ := h
  have hbi := B_const hc hb i
  have hbi' := B_const hc' hb' i
  have e1 : s i = p.1 := by rw [hs]; exact ha
  have n1 : (BitVec.ofNat 32 n).toNat = n := by rw [BitVec.toNat_ofNat]; omega
  have n2 : (BitVec.ofNat 32 (32 - n)).toNat = 32 - n := by rw [BitVec.toNat_ofNat]; omega
  have e2 : l i = p.2 <<< n := by
    rw [hl]; show IntOp.shli .host (y i) (b i) = _
    rw [hbi, h1, hy]; unfold IntOp.shli
    rw [if_pos (by omega), BitVec.shiftLeft_eq', n1]
  have e3 : u i = p.2 >>> (32 - n) := by
    rw [hu]; show IntOp.shrui .host (y i) (b' i) = _
    rw [hbi', h2, hy]; unfold IntOp.shrui
    rw [if_pos (by omega), BitVec.ushiftRight_eq', n2]
  refine ⟨e1, ?_⟩
  rw [hz]; show s i ^^^ o i = _
  rw [ho]; show s i ^^^ (l i ||| u i) = _
  rw [e1, e2, e3, or_eq_rl, BitVec.xor_comm]; rfl

/-- Between two rounds nothing else happens. -/
theorem At.next {i : S64x1000000.Idx} {s z : IVec S64x1000000 32} {n : ℕ} {p : BitVec 32 × BitVec 32}
    (h : s i = p.1 ∧ z i = mix n p.1 p.2) : At i s z (rnd n p) := ⟨by rw [h.1, h.2]; rfl, h.2⟩

/-- The keys added after every fourth round. -/
theorem At.keys {i : S64x1000000.Idx} {s z b t b' u bc v : IVec S64x1000000 32} {k k' c : IVec S_ 32} {g g' d : BitVec 32} {n : ℕ}
    {p : BitVec 32 × BitVec 32} (h : s i = p.1 ∧ z i = mix n p.1 p.2) (hb : b = B k) (ht : t = addi s b) (hb' : b' = B k')
    (hu : u = addi z b') (hc : c = constantI S_ 32 d) (hbc : bc = B c) (hv : v = addi u bc) (hk : ∀ j, k j = g) (hk' : ∀ j, k' j = g')
    (e : BitVec 32) (he : g' + d = e := by decide) : t i = p.1 + g ∧ v i = mix n p.1 p.2 + e := by
  constructor
  · rw [ht, hb]; show s i + B k i = _
    rw [B_apply k g hk, h.1]
  · rw [hv]; show u i + bc i = _
    rw [hu, B_const hc hbc]; show z i + b' i + d = _
    rw [hb', B_apply k' g' hk', h.2, BitVec.add_assoc, he]

/-- After the keys are added. -/
theorem At.after {i : S64x1000000.Idx} {t v : IVec S64x1000000 32} {g e : BitVec 32} {n : ℕ} {p : BitVec 32 × BitVec 32}
    (h : t i = p.1 + g ∧ v i = mix n p.1 p.2 + e) : At i t v (inj n g e p) := ⟨by rw [h.1, h.2]; rfl, h.2⟩

/-- After the keys are added, the first of which is zero. -/
theorem At.after_zero {i : S64x1000000.Idx} {t v : IVec S64x1000000 32} {e : BitVec 32} {n : ℕ} {p : BitVec 32 × BitVec 32}
    (h : t i = p.1 + 0#32 ∧ v i = mix n p.1 p.2 + e) : At i t v (injz n e p) := ⟨by rw [h.1, h.2, BitVec.add_zero]; rfl, h.2⟩

/-- After the last keys the two words are joined. -/
theorem At.joined {i : S64x1000000.Idx} {t v : IVec S64x1000000 32} {g e : BitVec 32} {n : ℕ} {p : BitVec 32 × BitVec 32}
    (h : t i = p.1 + g ∧ v i = mix n p.1 p.2 + e) : xori t v i = fin n g e p := by
  show t i ^^^ v i = _
  rw [h.1, h.2]; rfl

variable {arg0 arg1 : TRef sig ⟨S_, .i32⟩} {arg2 arg3 : TRef sig ⟨S64x1000000, .i32⟩} {φ : fn_threefry2x32.Bufs}

/-- With the key (0, 42) and the counter's high half zero, the joined words are the word of the low half plus the key. -/
theorem words_eq {W : Valuation τ sig (Elt F)} (h : (words (F := F) arg0 arg1 arg2 arg3 φ).eqs W)
    (k0 : ∀ j, read W arg0 j = 0#32) (k1 : ∀ j, read W arg1 j = 42#32) (i : S64x1000000.Idx) (hi : read W arg2 i = 0#32) :
    xori (read W φ.v171) (read W φ.v175) i = word (read W arg3 i + 42#32) := by
  obtain ⟨q1, q2, q3, q4⟩ := h
  obtain ⟨e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55, e56, e57, e58, e59, e60⟩ := q1
  obtain ⟨e61, e62, e63, e64, e65, e66, e67, e68, e69, e70, e71, e72, e73, e74, e75, e76, e77, e78, e79, e80, e81, e82, e83, e84, e85, e86, e87, e88, e89, e90, e91, e92, e93, e94, e95, e96, e97, e98, e99, e100, e101, e102, e103, e104, e105, e106, e107, e108, e109, e110, e111, e112, e113, e114, e115, e116, e117, e118, e119, e120⟩ := q2
  obtain ⟨e121, e122, e123, e124, e125, e126, e127, e128, e129, e130, e131, e132, e133, e134, e135, e136, e137, e138, e139, e140, e141, e142, e143, e144, e145, e146, e147, e148, e149, e150, e151, e152, e153, e154, e155, e156, e157, e158, e159, e160, e161, e162, e163, e164, e165, e166, e167, e168, e169, e170, e171, e172, e173, e174, e175, e176, e177, e178, e179, e180⟩ := q3
  obtain ⟨e181, e182, e183, e184, e185, e186, e187, e188, e189, e190, e191, e192, e193, e194, e195, e196, e197, e198, e199, e200, e201, e202, e203, e204, e205, e206, e207, e208, e209, e210, e211, e212, e213, e214, e215, e216, e217, e218, e219, e220, e221, e222, -⟩ := q4
  have k2 : ∀ j, read W φ.v1 j = 466689008#32 := fun j => by
    rw [e3]; show read W φ.v0 j ^^^ read W φ.c j = _
    rw [e2, e1]; show (read W arg0 j ^^^ read W arg1 j) ^^^ 466688986#32 = _
    rw [k0, k1]; exact (by decide : (0#32 ^^^ 42#32 ^^^ 466688986#32 : BitVec 32) = 466689008#32)
  have a0 : At i (read W φ.v3) (read W φ.v5) (read W arg3 i + 42#32, read W arg3 i + 42#32) := by
    have h5 : read W φ.v5 i = read W arg3 i + 42#32 := by
      rw [e7]; show read W arg3 i + read W φ.v4 i = _
      rw [e6]; exact congrArg _ (k1 _)
    have h3 : read W φ.v3 i = 0#32 := by
      rw [e5]; show read W arg2 i + read W φ.v2 i = _
      rw [e4, hi]; exact congrArg _ (k0 _)
    exact ⟨by rw [h3, h5, BitVec.zero_add], h5⟩
  generalize read W arg3 i + 42#32 = w at a0 ⊢
  have b0 := a0.round e8 e9 e10 e11 e12 e13 e14 e15 e16 13
  have a1 := At.next b0
  have b1 := a1.round e17 e18 e19 e20 e21 e22 e23 e24 e25 15
  have a2 := At.next b1
  have b2 := a2.round e26 e27 e28 e29 e30 e31 e32 e33 e34 26
  have a3 := At.next b2
  have b3 := a3.round e35 e36 e37 e38 e39 e40 e41 e42 e43 6
  have c3 := At.keys b3 e44 e45 e46 e47 e48 e49 e50 k1 k2 (466689009#32)
  have a4 := At.after c3
  have b4 := a4.round e51 e52 e53 e54 e55 e56 e57 e58 e59 17
  have a5 := At.next b4
  have b5 := a5.round e60 e61 e62 e63 e64 e65 e66 e67 e68 29
  have a6 := At.next b5
  have b6 := a6.round e69 e70 e71 e72 e73 e74 e75 e76 e77 16
  have a7 := At.next b6
  have b7 := a7.round e78 e79 e80 e81 e82 e83 e84 e85 e86 24
  have c7 := At.keys b7 e87 e88 e89 e90 e91 e92 e93 k2 k0 (2#32)
  have a8 := At.after c7
  have b8 := a8.round e94 e95 e96 e97 e98 e99 e100 e101 e102 13
  have a9 := At.next b8
  have b9 := a9.round e103 e104 e105 e106 e107 e108 e109 e110 e111 15
  have a10 := At.next b9
  have b10 := a10.round e112 e113 e114 e115 e116 e117 e118 e119 e120 26
  have a11 := At.next b10
  have b11 := a11.round e121 e122 e123 e124 e125 e126 e127 e128 e129 6
  have c11 := At.keys b11 e130 e131 e132 e133 e134 e135 e136 k0 k1 (45#32)
  have a12 := At.after_zero c11
  have b12 := a12.round e137 e138 e139 e140 e141 e142 e143 e144 e145 17
  have a13 := At.next b12
  have b13 := a13.round e146 e147 e148 e149 e150 e151 e152 e153 e154 29
  have a14 := At.next b13
  have b14 := a14.round e155 e156 e157 e158 e159 e160 e161 e162 e163 16
  have a15 := At.next b14
  have b15 := a15.round e164 e165 e166 e167 e168 e169 e170 e171 e172 24
  have c15 := At.keys b15 e173 e174 e175 e176 e177 e178 e179 k1 k2 (466689012#32)
  have a16 := At.after c15
  have b16 := a16.round e180 e181 e182 e183 e184 e185 e186 e187 e188 13
  have a17 := At.next b16
  have b17 := a17.round e189 e190 e191 e192 e193 e194 e195 e196 e197 15
  have a18 := At.next b17
  have b18 := a18.round e198 e199 e200 e201 e202 e203 e204 e205 e206 26
  have a19 := At.next b18
  have b19 := a19.round e207 e208 e209 e210 e211 e212 e213 e214 e215 6
  have c19 := At.keys b19 e216 e217 e218 e219 e220 e221 e222 k2 k0 (5#32)
  exact At.joined c19

end Cert.ReferenceIdeal.Ref

end
-- ==== Proof.RefUniform.lean ====
/-
  The reference's numbers in the unit interval, at one position: the counter is the position, the key is (0, 42), and the
  interval's ends are zero and one.
-/
module

public import proofs.«01_k».proof.Proof.RefWord
public import proofs.«01_k».proof.Proof.First
public import Idealize.ShloMosaic.Lib.IdealHost

@[expose] public section

noncomputable section

namespace Cert.ReferenceIdeal.Ref

open Cert.ReferenceIdeal Cert.ReferenceIdeal.Gen Cert.Lines Cert.Words
open Idealize.ShloMosaic Idealize.ShloMosaic.StableHlo Idealize.ShloMosaic.TcCoe Idealize.SL.Sem

variable {arg0 : TRef sig ⟨S2, .i32⟩} {arg1 arg2 : TRef sig ⟨S_, .f32⟩} {φ : fn_uniform.Bufs}

/-- The low half of the counter, plus the key, is the counter word. -/
theorem low_half (r q : ℕ) (hr : r < 64) (hq : q < 1000000) :
    BitVec.setWidth 32 (1000000#64 * BitVec.ofNat 64 r + 1#64 * BitVec.ofNat 64 q) + 42#32 = ctr r q := by
  unfold ctr
  apply BitVec.eq_of_toNat_eq
  simp only [BitVec.toNat_add, BitVec.toNat_setWidth, BitVec.toNat_mul, BitVec.toNat_ofNat]
  omega

/-- The high half of the counter is zero. -/
theorem high_half (r q : ℕ) (hr : r < 64) (hq : q < 1000000) :
    BitVec.setWidth 32 (IntOp.shrui .host (1000000#64 * BitVec.ofNat 64 r + 1#64 * BitVec.ofNat 64 q) 32#64) = 0#32 := by
  have h : (1000000#64 * BitVec.ofNat 64 r + 1#64 * BitVec.ofNat 64 q).toNat = r * 1000000 + q := by
    simp only [BitVec.toNat_add, BitVec.toNat_mul, BitVec.toNat_ofNat]
    omega
  unfold IntOp.shrui
  rw [if_pos (by decide), BitVec.ushiftRight_eq']
  apply BitVec.eq_of_toNat_eq
  rw [BitVec.toNat_setWidth, BitVec.toNat_ushiftRight, h, show (32#64).toNat = 32 from rfl, Nat.shiftRight_eq_div_pow,
    Nat.div_eq_of_lt (by omega)]
  rfl

/-- From zero to one, a number is moved nowhere; and none below zero is below the least positive one. -/
theorem unit_eq (b : BitVec 32) :
    (max (max (Ideal.ofBits .f32 0x00000000#32) ((Ideal.ofBits .f32 (b >>> 9 ||| 1065353216#32) - Ideal.ofBits .f32 0x3F800000#32)
        * (Ideal.ofBits .f32 0x3F800000#32 - Ideal.ofBits .f32 0x00000000#32) + Ideal.ofBits .f32 0x00000000#32)) (Ideal.ofBits .f32 0x00800000#32) : EReal)
      = (unit b : Ideal .f32) := by
  have e : ∀ x : EReal, max (max 0 (x * (1 - 0) + 0)) (Ideal.ofBits .f32 0x00800000#32) = max x (Ideal.ofBits .f32 0x00800000#32) := fun x => by
    have h0 : (0 : EReal) ≤ Ideal.ofBits .f32 0x00800000#32 := by
      simp [Ideal.ofBits, Ideal.ieee]
      rw [← EReal.coe_mul]
      exact EReal.coe_nonneg.2 (by positivity)
    rw [sub_zero, mul_one, add_zero, max_comm 0 x, max_assoc, max_eq_right h0]
  have h1 : Ideal.ofBits .f32 0x3F800000#32 = (1 : EReal) := Ideal.ofBits_one_f32
  have h0 : Ideal.ofBits .f32 0x00000000#32 = (0 : EReal) := Ideal.ofBits_zero_f32
  rw [h0]
  conv_lhs => rw [show ∀ y : EReal, y * (Ideal.ofBits .f32 0x3F800000#32 - 0) = y * (1 - 0) from fun y => by rw [h1]]
  rw [e]; rfl

/-- The bits of a position are the word of its counter. -/
theorem uniform_word {W : Valuation τ sig (Elt Ideal)} (h : (uniform (F := Ideal) arg0 arg1 arg2 φ).eqs W)
    (hk : ∀ j : S2.Idx, read W arg0 j = if (j 0).val = 0 then 0#32 else 42#32)
    (h1 : ∀ j, read W arg1 j = (Ideal.ofBits .f32 0x00000000#32 : EReal)) (h2 : ∀ j, read W arg2 j = (Ideal.ofBits .f32 0x3F800000#32 : EReal))
    (i : S64x1000000.Idx) :
    (max (read W φ.v34 i : EReal) (Ideal.ofBits .f32 0x00800000#32) : EReal) = (unit (word (ctr (i 0).val (i 1).val)) : Ideal .f32) := by
  obtain ⟨e0, e1, e2, e3, e4, e5, e6, e7, e8, e9, ec, e10, e11, ec0, e12, e13, e14, ec1, e15, e16, e17, e18, ew, e20, ec2, e21, e22, ec3, e23, e24, e25,
    ecst, e26, e27, e28, e29, e30, e31, e32, e33, e34, -⟩ := h
  have k0 : ∀ j, read W φ.v5 j = 0#32 := fun j => by
    rw [e5]; show read W φ.v4 _ = _
    generalize Shape.reshapeEquiv _ j = j'
    rw [e4]
    refine (hk _).trans (if_pos ?_)
    show 0 + (j' 0).val = 0
    have : (j' 0).val < 1 := (j' 0).isLt
    omega
  have k1 : ∀ j, read W φ.v7 j = 42#32 := fun j => by
    rw [e7]; show read W φ.v6 _ = _
    generalize Shape.reshapeEquiv _ j = j'
    rw [e6]
    refine (hk _).trans (if_neg ?_)
    show ¬ 1 + (j' 0).val = 0
    omega
  have hr : (i 0).val < 64 := (i 0).isLt
  have hq : (i 1).val < 1000000 := (i 1).isLt
  have c14 : read W φ.v14 i = 1000000#64 * BitVec.ofNat 64 (i 0).val + 1#64 * BitVec.ofNat 64 (i 1).val := by
    rw [e14, e11, e13, e10, e12, ec, ec0, e8, e9]; rfl
  have lo : read W φ.v17 i + 42#32 = ctr (i 0).val (i 1).val := by
    rw [e17, ← low_half _ _ hr hq, ← c14]; rfl
  have hi : read W φ.v18 i = 0#32 := by
    rw [e18, ← high_half _ _ hr hq, ← c14, e16, e15, ec1]; rfl
  have hw : read W φ.v20 i = word (ctr (i 0).val (i 1).val) := by
    rw [e20, words_eq ew k0 k1 i hi, lo]
  have s25 : read W φ.v25 i = (Ideal.ofBits .f32 (word (ctr (i 0).val (i 1).val) >>> 9 ||| 1065353216#32) : EReal) := by
    rw [e25, e24, e22, e23, e21, ec2, ec3, ← hw]; rfl
  have s2 : ∀ j, read W φ.v2 j = (Ideal.ofBits .f32 0x00000000#32 : EReal) := fun j => by
    rw [e2, e0]; exact h1 _
  have s3 : ∀ j, read W φ.v3 j = (Ideal.ofBits .f32 0x3F800000#32 : EReal) := fun j => by
    rw [e3, e1]; exact h2 _
  have s27 : read W φ.v27 i = (Ideal.ofBits .f32 (word (ctr (i 0).val (i 1).val) >>> 9 ||| 1065353216#32) - Ideal.ofBits .f32 0x3F800000#32 : EReal) := by
    rw [e27, ← s25, e26, ecst]; rfl
  have s28 : ∀ j, read W φ.v28 j = (Ideal.ofBits .f32 0x3F800000#32 - Ideal.ofBits .f32 0x00000000#32 : EReal) := fun j => by
    rw [e28, ← s2 j, ← s3 j]; rfl
  have s29 : read W φ.v29 i = (Ideal.ofBits .f32 0x3F800000#32 - Ideal.ofBits .f32 0x00000000#32 : EReal) := by
    rw [e29]; exact s28 _
  have s31 : read W φ.v31 i = (Ideal.ofBits .f32 0x00000000#32 : EReal) := by
    rw [e31]; exact s2 _
  have s33 : read W φ.v33 i = (Ideal.ofBits .f32 0x00000000#32 : EReal) := by
    rw [e33]; exact s2 _
  rw [← unit_eq, ← s27]
  nth_rw 1 [← s33]
  rw [← s29]
  rw [← s31]
  rw [e34, e32, e30]; rfl

end Cert.ReferenceIdeal.Ref
end
-- ==== Proof.RefArgmax.lean ====
/-
  The reference's search of a row, over the extended reals: folding its comparison over the row's pairs of score and column
  leaves the first column with the largest score.
-/
module

public import proofs.«01_k».proof.Proof.RefRun
public import proofs.«01_k».proof.Proof.First
public import Idealize.ShloMosaic.PureOps.Reduce

@[expose] public section

noncomputable section

namespace Cert.ReferenceIdeal.Ref

open Cert.ReferenceIdeal Cert.ReferenceIdeal.Gen Cert.Lines Cert.Words
open Idealize.ShloMosaic Idealize.ShloMosaic.StableHlo Idealize.ShloMosaic.TcCoe Idealize.SL.Sem

/-- A score and its column, at least as good as another pair. -/
def Beats (p q : Ideal .f32 × BitVec 32) : Prop := (q.1 : EReal) < p.1 ∨ ((q.1 : EReal) = p.1 ∧ p.2.toInt ≤ q.2.toInt)

/-- A pair is as good as itself. -/
theorem Beats.refl (p : Ideal .f32 × BitVec 32) : Beats p p := .inr ⟨rfl, le_rfl⟩

/-- Being at least as good is transitive. -/
theorem Beats.trans {p q r : Ideal .f32 × BitVec 32} (h : Beats p q) (h' : Beats q r) : Beats p r := by
  rcases h with h | ⟨h, k⟩ <;> rcases h' with h' | ⟨h', k'⟩
  · exact .inl (h'.trans h)
  · exact .inl (h'.trans_lt h)
  · exact .inl (h'.trans_eq h)
  · exact .inr ⟨h'.trans h, k.trans k'⟩

/-- The comparison keeps one of its two pairs, and that one is at least as good as both. -/
theorem reducer_spec (a b : Ideal .f32 × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨x, k⟩ := a
  obtain ⟨y, l⟩ := b
  have e : reducer_argmax_f32_i32 (F := Ideal) (x, k) (y, l)
      = if (y : EReal) < x ∨ ((x : EReal) = y ∧ k.toInt < l.toInt) then (x, k) else (y, l) := by
    show (Scalar.select (BitVec.ofBool (decide ((y : EReal) < x)) ||| BitVec.ofBool (decide ((x : EReal) ≠ x))) x y,
      Scalar.select ((BitVec.ofBool (decide ((y : EReal) < x)) ||| BitVec.ofBool (decide ((x : EReal) ≠ x)))
        ||| (BitVec.ofBool (decide ((x : EReal) = y)) &&& BitVec.ofBool (k.slt l))) k l) = _
    rw [BitVec.slt_eq_decide]
    unfold Scalar.select
    have one : ∀ c : Bool, 1#1 ||| BitVec.ofBool c = 1#1 := by decide
    by_cases h : (y : EReal) < x
    · simp [h, one]
    · by_cases h' : (x : EReal) = y <;> by_cases h'' : k.toInt < l.toInt <;> simp [h, h', h'']
  rw [e]
  by_cases h : (y : EReal) < x ∨ ((x : EReal) = y ∧ k.toInt < l.toInt)
  · rw [if_pos h]
    exact ⟨.inl rfl, .refl _, h.imp id fun h => ⟨h.1.symm, h.2.le⟩⟩
  · rw [if_neg h]
    rw [not_or, not_lt, not_and, not_lt] at h
    refine ⟨.inr rfl, ?_, .refl _⟩
    rcases lt_or_eq_of_le h.1 with h1 | h1
    · exact .inl h1
    · exact .inr ⟨h1, h.2 h1⟩

/-- Folding it over a list keeps one pair, at least as good as all. -/
theorem fold_spec (l : List (Ideal .f32 × BitVec 32)) (a : Ideal .f32 × BitVec 32) :
    (l.foldl (reducer_argmax_f32_i32 (F := Ideal)) a = a ∨ l.foldl (reducer_argmax_f32_i32 (F := Ideal)) a ∈ l)
      ∧ Beats (l.foldl (reducer_argmax_f32_i32 (F := Ideal)) a) a ∧ ∀ p ∈ l, Beats (l.foldl (reducer_argmax_f32_i32 (F := Ideal)) a) p := by
  induction l generalizing a with
  | nil => exact ⟨.inl rfl, .refl _, nofun⟩
  | cons b l ih =>
    obtain ⟨hm, h1, h2⟩ := ih (reducer_argmax_f32_i32 (F := Ideal) a b)
    obtain ⟨k, ka, kb⟩ := reducer_spec a b
    rw [List.foldl_cons]
    refine ⟨?_, h1.trans ka, fun p hp => ?_⟩
    · rcases hm with hm | hm
      · rw [hm]; exact k.imp id fun e => List.mem_cons.2 (.inl e)
      · exact .inr (List.mem_cons_of_mem _ hm)
    · rcases List.mem_cons.1 hp with rfl | hp
      exacts [h1.trans kb, h2 p hp]

/-- So a list of all a row's pairs, searched from minus infinity, gives the first column with the largest score. -/
theorem fold_first (f : ℕ → EReal) (K : ℕ) (hK : First f K) (l : List (Ideal .f32 × BitVec 32))
    (h1 : ∀ p ∈ l, ∃ q < 1000000, p = (f q, BitVec.ofNat 32 q)) (h2 : ∀ q < 1000000, ((f q, BitVec.ofNat 32 q) : Ideal .f32 × BitVec 32) ∈ l) :
    (l.foldl (reducer_argmax_f32_i32 (F := Ideal)) ((⊥ : EReal), 0#32)).2 = BitVec.ofNat 32 K := by
  obtain ⟨hm, -, hb⟩ := fold_spec l ((⊥ : EReal), 0#32)
  have hK6 := hK.1
  have hword : ∀ p, p < 1000000 → (BitVec.ofNat 32 p).toInt = p := fun p hp => by
    rw [BitVec.toInt_ofNat', Int.bmod_eq_of_le] <;> omega
  have hbK := hb _ (h2 K hK6)
  generalize l.foldl (reducer_argmax_f32_i32 (F := Ideal)) ((⊥ : EReal), 0#32) = r at hm hbK
  rcases hm with rfl | hm
  · have h0 : f K = ⊥ := by
      rcases hbK with h | h
      · exact absurd h not_lt_bot
      · exact h.1
    rcases hK.2 0 (by omega) with h | h
    · rw [h0] at h; exact absurd h not_lt_bot
    · rw [show K = 0 by omega]
  · obtain ⟨q, hq, rfl⟩ := h1 r hm
    show BitVec.ofNat 32 q = _
    rcases hbK with h | ⟨h, h'⟩
    · rcases hK.2 q hq with k | k
      · exact absurd (h.trans k) (lt_irrefl _)
      · exact absurd k.1 h.ne'
    · replace h : f K = f q := h
      rw [hword q hq, hword K hK6] at h'
      rcases hK.2 q hq with k | k
      · exact absurd h k.ne'
      · rw [show q = K by omega]

/-- The search of the reference gives a row's first column with the largest score. -/
theorem argmax_eq {arg0 : TRef sig ⟨S64x1000000, .f32⟩} {φ : fn_argmax.Bufs} {W : Valuation τ sig (Elt Ideal)}
    (h : (argmax (F := Ideal) arg0 φ).eqs W) (f : ℕ → ℕ → EReal) (hf : ∀ i, read W arg0 i = f (i 0).val (i 1).val)
    (j : S64.Idx) (K : ℕ) (hK : First (f (j 0).val) K) : read W φ.v1_1 j = BitVec.ofNat 32 K := by
  obtain ⟨e0, ecst, ec, -, e1, -⟩ := h
  have hd : ∀ i : S64x1000000.Idx, Facts₀.reducesTo_S64x1000000_S64_d1.drop i = j ↔ (i 0).val = (j 0).val := fun i => by
    have h : (Facts₀.reducesTo_S64x1000000_S64_d1.drop i 0 : ℕ) = i 0 := Shape.ReducesTo.drop_apply_val_of_eq _ i 0 0
    constructor
    · rintro rfl; exact h.symm
    · intro e; funext a; fin_cases a; exact Fin.ext (h.trans e)
  rw [e1]
  show (Host.argReduce _ _ _ _ _ _ _ j).2 = _
  rw [Ideal.argReduce_eq_reduce2, Host.reduce2_eq_foldl_fiber]
  have hinit : ((read W φ.cst (Shape.Idx.first Facts₀.h_S_), read W φ.c (Shape.Idx.first Facts₀.h_S_)) : Ideal .f32 × BitVec 32) = ((⊥ : EReal), 0#32) := by
    rw [ecst, ec]; exact Prod.ext bot_word rfl
  have hpair : ∀ i : S64x1000000.Idx, (i 0).val = (j 0).val →
      ((read W arg0 i, read W φ.v0 i) : Ideal .f32 × BitVec 32) = (f (j 0).val (i 1).val, BitVec.ofNat 32 (i 1).val) := fun i hi => by
    rw [hf, e0, hi]; rfl
  rw [hinit]
  refine fold_first (f (j 0).val) K hK _ (fun p hp => ?_) fun q hq => ?_
  · obtain ⟨n, hn, rfl⟩ := List.mem_map.1 hp
    have hi := (hd _).1 (of_decide_eq_true (List.mem_filter.1 hn).2)
    exact ⟨_, (S64x1000000.rowMajor.symm n 1).isLt, hpair _ hi⟩
  · let i : S64x1000000.Idx := fun a => ⟨(![(j 0).val, q] : Fin 2 → ℕ) a, by fin_cases a; exacts [(j 0).isLt, hq]⟩
    refine List.mem_map.2 ⟨S64x1000000.rowMajor i, List.mem_filter.2 ⟨List.mem_finRange _, decide_eq_true ?_⟩, ?_⟩
    · rw [Equiv.symm_apply_apply]; exact (hd i).2 rfl
    · rw [Equiv.symm_apply_apply]; exact hpair i rfl

end Cert.ReferenceIdeal.Ref
end
-- ==== Proof.RefValue.lean ====
/-
  What the reference returns over the extended reals: for each row the first column with the largest score.
-/
module

public import proofs.«01_k».proof.Proof.RefUniform
public import proofs.«01_k».proof.Proof.RefArgmax
public import Idealize.ShloMosaic.Lib.Pointwise

@[expose] public section

noncomputable section

namespace Cert.ReferenceIdeal.Ref

open Cert.ReferenceIdeal Cert.ReferenceIdeal.Gen Cert.Lines Cert.Words
open Idealize.ShloMosaic Idealize.ShloMosaic.StableHlo Idealize.ShloMosaic.TcCoe Idealize.SL.Sem

/-- Two numbers one after the other. -/
theorem pair_apply (a b : IVec S1 32) (j : S2.Idx) (x y : BitVec 32) (ha : ∀ i, a i = x) (hb : ∀ i, b i = y) :
    concatenate S2 0 [⟨S1, a⟩, ⟨S1, b⟩] Facts₀.concatenates_S1_S1_S2_d0 j = if (j 0).val = 0 then x else y := by
  rw [concatenate_pair_apply]
  by_cases h : (j 0).val = 0
  · rw [if_pos h]
    split
    · exact ha _
    · rename_i h'; exact absurd (show (j 0).val < 1 by omega) h'
  · rw [if_neg h]
    split
    · rename_i h'; exact absurd (Nat.lt_one_iff.1 h') h
    · exact hb _

/-- A score over the extended reals, where subtracting from zero is negation. -/
theorem score_eq (u x : EReal) : (-(Ideal.log (-(Ideal.log u))) + x : EReal) = score (F := Ideal) u x := by
  have h (y : EReal) : Ideal.ofBits .f32 0x00000000#32 - y = -y := by
    rw [Ideal.ofBits_zero_f32, zero_sub]
  show _ = Ideal.ofBits .f32 0x00000000#32 - Ideal.log (Ideal.ofBits .f32 0x00000000#32 - Ideal.log u) + x
  rw [h, h]

/-- With the logits `x`, the reference returns the first column with the largest score. -/
theorem value_eq {c : Dev nD} {W : Valuation τ sig (Elt Ideal)} (h : (whole (F := Ideal) c).eqs W) (x : ℕ → ℕ → Ideal .f32)
    (hx : ∀ i : S64x1000000.Idx, (W (Proc.devRef .tc main_arg0) : FVec Ideal S64x1000000 .f32) i = x (i 0).val (i 1).val)
    (j : S64.Idx) (K : ℕ) (hK : First (cell x (j 0).val) K) : (W (Proc.devRef .tc main_v15) : IVec S64 32) j = BitVec.ofNat 32 K := by
  obtain ⟨ec, ec0, e0, e1, e2, ec1, e3, e4, e5, e6, ecst, ecst2, eu, ecst3, e8, e9, e10, e11, e12, e13, e14, ea, -⟩ := h
  have k2 : ∀ i, (W (Proc.devRef .tc main_v2) : IVec S1 32) i = 0#32 := fun i => by
    rw [e2, e1, e0, ec, ec0]; rfl
  have k5 : ∀ i, (W (Proc.devRef .tc main_v5) : IVec S1 32) i = 42#32 := fun i => by
    rw [e5, e4, e3, ec, ec1]
    exact (by decide : (42#32 &&& 4294967295#32) = 42#32)
  have k6 : ∀ i : S2.Idx, (W (Proc.devRef .tc main_v6) : IVec S2 32) i = if (i 0).val = 0 then 0#32 else 42#32 := fun i => by
    rw [e6]; exact pair_apply _ _ i _ _ k2 k5
  have hv : ∀ i : S64x1000000.Idx, (W (Proc.devRef .tc main_v14) : FVec Ideal S64x1000000 .f32) i = cell x (i 0).val (i 1).val := fun i => by
    have u9 : (W (Proc.devRef .tc main_v9) : FVec Ideal S64x1000000 .f32) i = (unit (word (ctr (i 0).val (i 1).val)) : Ideal .f32) := by
      rw [← uniform_word eu k6 (fun j => congrFun ecst j) (fun j => congrFun ecst2 j) i, e9, e8, ecst3]; rfl
    rw [cell_of_lt x _ _ (i 1).isLt, ← u9, ← hx, ← score_eq, e14, e13, e12, e11, e10]; rfl
  exact argmax_eq ea (fun r q => cell x r q) hv j K hK

end Cert.ReferenceIdeal.Ref
end
-- ==== Proof.Equal.lean ====
/-
  The two programs' results are equal over the extended reals: both are each row's first column with the largest score.
-/
module

public import proofs.«01_k».proof.Proof.Answer
public import proofs.«01_k».proof.Proof.RefValue

@[expose] public section

noncomputable section

namespace Cert.Equal

open Idealize.ShloMosaic Idealize.ShloMosaic.TcCoe Cert.Words

/-- Contents that satisfy the reference's equations and have the kernel's logits have the kernel's result. -/
theorem value (m : (ℓ : Loc Cert.KernelIdeal.nD Cert.KernelIdeal.τ Cert.KernelIdeal.sig) → Buf (Elt Ideal) ℓ) (c : Dev Cert.KernelIdeal.nD)
    (W : Valuation Cert.ReferenceIdeal.τ Cert.ReferenceIdeal.sig (Elt Ideal)) (h : (Cert.ReferenceIdeal.Ref.whole (F := Ideal) c).eqs W)
    (hx : W (Proc.devRef .tc Cert.ReferenceIdeal.main_arg0) = m ((c.tc : Thread Cert.KernelIdeal.nD Cert.KernelIdeal.τ).loc Cert.KernelIdeal.main_arg0)) :
    W (Proc.devRef .tc Cert.ReferenceIdeal.main_v15) = Cert.KernelIdeal.Body.result m c := by
  funext j
  obtain ⟨K, hK⟩ := exists_first (cell (Cert.KernelIdeal.Body.logits m c) (j 0).val)
  refine (Cert.ReferenceIdeal.Ref.value_eq h (Cert.KernelIdeal.Body.logits m c) (fun i => ?_) j K hK).trans
    (Cert.KernelIdeal.Body.result_eq m c j K hK).symm
  refine (congrFun hx i).trans (Eq.symm ((dif_pos ⟨(i 0).isLt, (i 1).isLt⟩).trans (congrArg _ ?_)))
  funext a; fin_cases a <;> rfl

end Cert.Equal
end
-- ==== Proof.lean ====
/-
  The certificate: each conjunct of `Cert.Claim` from the module that proves it.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frame
public import proofs.«01_k».proof.Proof.Outcome
public import proofs.«01_k».proof.Proof.RefRun
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The word-level kernel terminates, keeps the logits and leaves every counter at zero. -/
theorem kernel_frame : @Cert.quiescent_Kernel Cert.Kernel.Gen.facts :=
  fun m g _ => Cert.Kernel.Body.quiescent (F := Bits) m g

/-- So does the idealized kernel. -/
theorem ideal_frame : @Cert.quiescent_KernelIdeal Cert.KernelIdeal.Gen.facts := fun m g _ =>
  (θ_run _ _ _).mono (fun _ h => ⟨fun c => (h.1 c).2, h.2⟩) (Cert.KernelIdeal.Body.outcome (F := Ideal) m g)

/-- So does the reference. -/
theorem reference_frame : @Cert.quiescent_ReferenceIdeal Cert.ReferenceIdeal.Gen.facts := fun m g _ =>
  (θ_run _ _ _).mono (fun _ h => ⟨fun c => (h.1 c).2, h.2⟩) (Cert.ReferenceIdeal.Ref.run (F := Ideal) m g)

/-- Over the extended reals the kernel and the reference, run on the same logits, return the same columns. -/
theorem equal : @Cert.algebraic_KernelIdeal_ReferenceIdeal Cert.KernelIdeal.Gen.facts Cert.ReferenceIdeal.Gen.facts := fun m g m' g' _ hm =>
  ⟨Cert.KernelIdeal.Body.result m, (θ_run _ _ _).mono (fun _ h => h.1) (Cert.KernelIdeal.Body.outcome (F := Ideal) m g),
    (θ_run _ _ _).mono (fun r h c => by
      obtain ⟨⟨W, hW, hb⟩, ha⟩ := h.1 c
      exact ⟨(hb _).trans (Cert.Equal.value m c W hW ((hb _).symm.trans (ha.trans (hm c)))), ha⟩)
      (Cert.ReferenceIdeal.Ref.run (F := Ideal) m' g')⟩

/-- All the claims. -/
theorem claim : Cert.Claim := ⟨Cert.Kernel.Gen.facts, Cert.KernelIdeal.Gen.facts, Cert.ReferenceIdeal.Gen.facts,
  kernel_frame, ideal_frame, reference_frame, trivial, equal⟩

end Cert.Proof

end
